-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 2048]⟩ ⟨3, ![8, 256, 2048]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x2048 : Shape := ⟨3, ![1, 256, 2048]⟩
abbrev S256x256 : Shape := ⟨2, ![256, 256]⟩
abbrev S8x256x256 : Shape := ⟨3, ![8, 256, 256]⟩
abbrev S8 : Shape := ⟨1, ![8]⟩
abbrev S_ : Shape := ⟨0, ![]⟩
abbrev S1x256x256 : Shape := ⟨3, ![1, 256, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x256x2048, .bf16⟩
  | .hbm, ⟨1, _⟩ => ⟨S256x256, .f32⟩
  | .local _ .vmem, ⟨0, _⟩ => ⟨S1x256x2048, .bf16⟩
  | .local _ .vmem, ⟨1, _⟩ => ⟨S256x256, .f32⟩
  | .local _ .vmem, ⟨2, _⟩ => ⟨S8x256x256, .bf16⟩
  | .local _ .vmem, ⟨3, _⟩ => ⟨S8x256x256, .bf16⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_34 : BitVec 32 := 0#32
  let v37 : BitVec 1 := Scalar.cmpi .ne v2 c0_i32_34
  let v38 : BitVec 32 := Scalar.extui v37
  let c0_i32_35 : BitVec 32 := 0#32
  let v39 : BitVec 1 := Scalar.cmpi .ne v38 c0_i32_35
  v39

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_187 : BitVec 32 := 0#32
  let c0_i32_188 : BitVec 32 := 0#32
  ![v2.toNat, 0, 0]
def k0_dev8 : Nat :=
  let c0_i32_186 : BitVec 32 := 0#32
  let c0_i32_184 : BitVec 32 := 0#32
  let c1_i32_185 : BitVec 32 := 1#32
  let v230 : BitVec 32 := Scalar.muli c0_i32_184 c1_i32_185
  let v231 : BitVec 32 := Scalar.addi c0_i32_186 v230
  v231.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v45 : BitVec 1 := Scalar.cmpi .ne v2 c1_i32_40
  let v46 : BitVec 32 := Scalar.extui v45
  let c0_i32_41 : BitVec 32 := 0#32
  let v47 : BitVec 1 := Scalar.cmpi .ne v46 c0_i32_41
  v47

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_187 : BitVec 32 := 0#32
  let c0_i32_188 : BitVec 32 := 0#32
  ![v2.toNat, 0, 0]
def k0_dev9 : Nat :=
  let c0_i32_186 : BitVec 32 := 0#32
  let c1_i32_184 : BitVec 32 := 1#32
  let c1_i32_185 : BitVec 32 := 1#32
  let v230 : BitVec 32 := Scalar.muli c1_i32_184 c1_i32_185
  let v231 : BitVec 32 := Scalar.addi c0_i32_186 v230
  v231.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v53 : BitVec 1 := Scalar.cmpi .ne v2 c2_i32_46
  let v54 : BitVec 32 := Scalar.extui v53
  let c0_i32_47 : BitVec 32 := 0#32
  let v55 : BitVec 1 := Scalar.cmpi .ne v54 c0_i32_47
  v55

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_187 : BitVec 32 := 0#32
  let c0_i32_188 : BitVec 32 := 0#32
  ![v2.toNat, 0, 0]
def k0_dev10 : Nat :=
  let c0_i32_186 : BitVec 32 := 0#32
  let c2_i32_184 : BitVec 32 := 2#32
  let c1_i32_185 : BitVec 32 := 1#32
  let v230 : BitVec 32 := Scalar.muli c2_i32_184 c1_i32_185
  let v231 : BitVec 32 := Scalar.addi c0_i32_186 v230
  v231.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v61 : BitVec 1 := Scalar.cmpi .ne v2 c3_i32_52
  let v62 : BitVec 32 := Scalar.extui v61
  let c0_i32_53 : BitVec 32 := 0#32
  let v63 : BitVec 1 := Scalar.cmpi .ne v62 c0_i32_53
  v63

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_187 : BitVec 32 := 0#32
  let c0_i32_188 : BitVec 32 := 0#32
  ![v2.toNat, 0, 0]
def k0_dev11 : Nat :=
  let c0_i32_186 : BitVec 32 := 0#32
  let c3_i32_184 : BitVec 32 := 3#32
  let c1_i32_185 : BitVec 32 := 1#32
  let v230 : BitVec 32 := Scalar.muli c3_i32_184 c1_i32_185
  let v231 : BitVec 32 := Scalar.addi c0_i32_186 v230
  v231.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_58 : BitVec 32 := 4#32
  let v69 : BitVec 1 := Scalar.cmpi .ne v2 c4_i32_58
  let v70 : BitVec 32 := Scalar.extui v69
  let c0_i32_59 : BitVec 32 := 0#32
  let v71 : BitVec 1 := Scalar.cmpi .ne v70 c0_i32_59
  v71

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_187 : BitVec 32 := 0#32
  let c0_i32_188 : BitVec 32 := 0#32
  ![v2.toNat, 0, 0]
def k0_dev12 : Nat :=
  let c0_i32_186 : BitVec 32 := 0#32
  let c4_i32_184 : BitVec 32 := 4#32
  let c1_i32_185 : BitVec 32 := 1#32
  let v230 : BitVec 32 := Scalar.muli c4_i32_184 c1_i32_185
  let v231 : BitVec 32 := Scalar.addi c0_i32_186 v230
  v231.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_64 : BitVec 32 := 5#32
  let v77 : BitVec 1 := Scalar.cmpi .ne v2 c5_i32_64
  let v78 : BitVec 32 := Scalar.extui v77
  let c0_i32_65 : BitVec 32 := 0#32
  let v79 : BitVec 1 := Scalar.cmpi .ne v78 c0_i32_65
  v79

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_187 : BitVec 32 := 0#32
  let c0_i32_188 : BitVec 32 := 0#32
  ![v2.toNat, 0, 0]
def k0_dev13 : Nat :=
  let c0_i32_186 : BitVec 32 := 0#32
  let c5_i32_184 : BitVec 32 := 5#32
  let c1_i32_185 : BitVec 32 := 1#32
  let v230 : BitVec 32 := Scalar.muli c5_i32_184 c1_i32_185
  let v231 : BitVec 32 := Scalar.addi c0_i32_186 v230
  v231.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_70 : BitVec 32 := 6#32
  let v85 : BitVec 1 := Scalar.cmpi .ne v2 c6_i32_70
  let v86 : BitVec 32 := Scalar.extui v85
  let c0_i32_71 : BitVec 32 := 0#32
  let v87 : BitVec 1 := Scalar.cmpi .ne v86 c0_i32_71
  v87

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_187 : BitVec 32 := 0#32
  let c0_i32_188 : BitVec 32 := 0#32
  ![v2.toNat, 0, 0]
def k0_dev14 : Nat :=
  let c0_i32_186 : BitVec 32 := 0#32
  let c6_i32_184 : BitVec 32 := 6#32
  let c1_i32_185 : BitVec 32 := 1#32
  let v230 : BitVec 32 := Scalar.muli c6_i32_184 c1_i32_185
  let v231 : BitVec 32 := Scalar.addi c0_i32_186 v230
  v231.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v93 : BitVec 1 := Scalar.cmpi .ne v2 c7_i32_76
  let v94 : BitVec 32 := Scalar.extui v93
  let c0_i32_77 : BitVec 32 := 0#32
  let v95 : BitVec 1 := Scalar.cmpi .ne v94 c0_i32_77
  v95

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_187 : BitVec 32 := 0#32
  let c0_i32_188 : BitVec 32 := 0#32
  ![v2.toNat, 0, 0]
def k0_dev15 : Nat :=
  let c0_i32_186 : BitVec 32 := 0#32
  let c7_i32_184 : BitVec 32 := 7#32
  let c1_i32_185 : BitVec 32 := 1#32
  let v230 : BitVec 32 := Scalar.muli c7_i32_184 c1_i32_185
  let v231 : BitVec 32 := Scalar.addi c0_i32_186 v230
  v231.toNat
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v96 : Index := Scalar.indexCast v2
  let c0_78 : Index := 0#32
  let c0_79 : Index := 0#32
  ![v96.toNat, 0, 0]
def k0_off18 (d0 : Dev nD) (c1_i32_80 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : BitVec 32 := Scalar.addi v2 c1_i32_80
  let c8_i32_81 : BitVec 32 := 8#32
  let v101 : BitVec 32 := Scalar.remsi v100 c8_i32_81
  ![v101.toNat]
def k0_off19 (d0 : Dev nD) (c1_i32_80 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : BitVec 32 := Scalar.addi v2 c1_i32_80
  let c8_i32_81 : BitVec 32 := 8#32
  let v101 : BitVec 32 := Scalar.remsi v100 c8_i32_81
  let c0_i32_86 : BitVec 32 := 0#32
  let c0_i32_87 : BitVec 32 := 0#32
  ![v101.toNat, 0, 0]
def k0_off20 (d0 : Dev nD) (c1_i32_80 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : BitVec 32 := Scalar.addi v2 c1_i32_80
  let c8_i32_81 : BitVec 32 := 8#32
  let v101 : BitVec 32 := Scalar.remsi v100 c8_i32_81
  let v110 : Index := Scalar.indexCast v101
  let c0_90 : Index := 0#32
  let c0_91 : Index := 0#32
  ![v110.toNat, 0, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_166 : BitVec 32 := 0#32
  let v206 : BitVec 1 := Scalar.cmpi .ne v2 c0_i32_166
  let v207 : BitVec 32 := Scalar.extui v206
  let c0_i32_167 : BitVec 32 := 0#32
  let v208 : BitVec 1 := Scalar.cmpi .ne v207 c0_i32_167
  v208

def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_168 : BitVec 32 := 1#32
  let v209 : BitVec 1 := Scalar.cmpi .ne v2 c1_i32_168
  let v210 : BitVec 32 := Scalar.extui v209
  let c0_i32_169 : BitVec 32 := 0#32
  let v211 : BitVec 1 := Scalar.cmpi .ne v210 c0_i32_169
  v211

def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_170 : BitVec 32 := 2#32
  let v212 : BitVec 1 := Scalar.cmpi .ne v2 c2_i32_170
  let v213 : BitVec 32 := Scalar.extui v212
  let c0_i32_171 : BitVec 32 := 0#32
  let v214 : BitVec 1 := Scalar.cmpi .ne v213 c0_i32_171
  v214

def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_172 : BitVec 32 := 3#32
  let v215 : BitVec 1 := Scalar.cmpi .ne v2 c3_i32_172
  let v216 : BitVec 32 := Scalar.extui v215
  let c0_i32_173 : BitVec 32 := 0#32
  let v217 : BitVec 1 := Scalar.cmpi .ne v216 c0_i32_173
  v217

def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_174 : BitVec 32 := 4#32
  let v218 : BitVec 1 := Scalar.cmpi .ne v2 c4_i32_174
  let v219 : BitVec 32 := Scalar.extui v218
  let c0_i32_175 : BitVec 32 := 0#32
  let v220 : BitVec 1 := Scalar.cmpi .ne v219 c0_i32_175
  v220

def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_176 : BitVec 32 := 5#32
  let v221 : BitVec 1 := Scalar.cmpi .ne v2 c5_i32_176
  let v222 : BitVec 32 := Scalar.extui v221
  let c0_i32_177 : BitVec 32 := 0#32
  let v223 : BitVec 1 := Scalar.cmpi .ne v222 c0_i32_177
  v223

def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_178 : BitVec 32 := 6#32
  let v224 : BitVec 1 := Scalar.cmpi .ne v2 c6_i32_178
  let v225 : BitVec 32 := Scalar.extui v224
  let c0_i32_179 : BitVec 32 := 0#32
  let v226 : BitVec 1 := Scalar.cmpi .ne v225 c0_i32_179
  v226

def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_180 : BitVec 32 := 7#32
  let v227 : BitVec 1 := Scalar.cmpi .ne v2 c7_i32_180
  let v228 : BitVec 32 := Scalar.extui v227
  let c0_i32_181 : BitVec 32 := 0#32
  let v229 : BitVec 1 := Scalar.cmpi .ne v228 c0_i32_181
  v229

def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x256x2048 : Shape := ⟨3, ![8, 256, 2048]⟩
abbrev S_ : Shape := ⟨0, ![]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .f32⟩
  | .hbm, ⟨2, _⟩ => ⟨S_, .f32⟩
  | .hbm, ⟨3, _⟩ => ⟨S256x2048, .f32⟩
  | .hbm, ⟨4, _⟩ => ⟨S256x2048, .bf16⟩
  | .hbm, ⟨5, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Slots.lean ====
/-
# The slots of the exchange and the protocol on its semaphores

Every device keeps two scratch buffers of eight slots: `stage`, whose slot `j` holds the block of columns it sends to
device `j`, and `recv`, whose slot `i` is where device `i` writes. A device's semaphores are its entry barrier, eight
send semaphores (one per destination) and eight receive semaphores (one per sender).

This module names the slots, says what each holds, and states the protocol under the rounds library: one round, in which

* device `d` raises the barrier of every other device `c` by one, handing over its own receive slot `c`;
* the receive semaphore `i` of device `c` is raised by device `i`'s transfer, which leaves column block `c` of device
  `i`'s input in slot `i`;
* the send semaphore `j` of device `c` is raised by `c`'s own transfer to `j`, which gives its stage slot `j` back.

Duties are named by devices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The exchange's own ghost state: one round state per semaphore, its duties named by devices. -/
abbrev UX : Type := URounds (GSem nD τ sig) (Dev nD)
/-- The pipeline library's ghost state beside the exchange's. -/
abbrev UU : Type := UR sig nD τ × UX

local notation "𝕄" => MT nD τ sig Unit (Elt F) ℕ UU ℕ

/-- Where the pipeline library's ghost state sits. -/
abbrev EP : Emb (UR sig nD τ) (MT nD τ sig Unit (Elt F) ℕ UU ℕ) := embL
/-- Where the exchange's ghost state sits. -/
abbrev EX : Emb UX (MT nD τ sig Unit (Elt F) ℕ UU ℕ) := embR

variable (m : (ℓ : Loc nD τ sig) → Buf (Elt F) ℓ)

/-! ## The buffers and their slots -/

/-- The staged input block, the staged result block, the send slots and the receive slots. -/
abbrev xM : Memref sig .tc .vmem S1x256x2048 .bf16 := Memref.whole cc0_stg0_0
abbrev oM : Memref sig .tc .vmem S256x256 .f32 := Memref.whole cc0_stg1_0
abbrev sM : Memref sig .tc .vmem S8x256x256 .bf16 := Memref.whole cc0_scratch0
abbrev rM : Memref sig .tc .vmem S8x256x256 .bf16 := Memref.whole cc0_scratch1

theorem slot_inb (i : Fin 8) : ∀ a, (![i.val, 0, 0] : Fin 3 → ℕ) a + S1x256x256.size a ≤ S8x256x256.size a := by
  revert i; decide

theorem cols_inb (j : Fin 8) : ∀ a, (![0, 0, 256 * j.val] : Fin 3 → ℕ) a + S1x256x256.size a ≤ S1x256x2048.size a := by
  revert j; decide

/-- Slot `i` of an eight-slot buffer. -/
abbrev slotRect (i : Fin 8) : Rect S8x256x256 := Rect.unit (s := S8x256x256) ![i.val, 0, 0] S1x256x256.size (slot_inb i)

/-- Column block `j` of an input block. -/
abbrev colRect (j : Fin 8) : Rect S1x256x2048 := Rect.unit (s := S1x256x2048) ![0, 0, 256 * j.val] S1x256x256.size (cols_inb j)

/-- Slot `i` of the buffer `M` as a memref. -/
abbrev slotM (M : Memref sig .tc .vmem S8x256x256 .bf16) (i : Fin 8) : Memref sig .tc .vmem S1x256x256 .bf16 :=
  M.slice (slotRect i) (fun _ => rfl)

/-- Device `c`'s input as the kernel finds it staged: its argument block. -/
def xAt (c : Dev nD) : (cc0_stg0_0 : Ref sig .tc).ty.Contents (Elt F) :=
  (win0_0.blk (0 : Fin 1)).view.read (Elt F) (m ((c : Thread nD τ).loc main_arg0))

/-- Column block `j` of device `c`'s input. -/
def blk (c : Dev nD) (j : Fin 8) : Vec F S1x256x256 .bf16 := fun z => xAt m c ((colRect j).emb z)

/-- Device `c` holds slot `i` of `M`, reading `v`. -/
def slot (M : Memref sig .tc .vmem S8x256x256 .bf16) (c : Dev nD) (i : Fin 8) (v : Vec F S1x256x256 .bf16) : sProp 𝕄 :=
  owns (c : Thread nD τ) (slotM M i) fullShare v

/-- Device `c` holds slot `i` of `M`, whatever it reads. -/
def slotAny (M : Memref sig .tc .vmem S8x256x256 .bf16) (c : Dev nD) (i : Fin 8) : sProp 𝕄 :=
  iprop(∃ f, M.view.loc (c : Thread nD τ) ↦[(M.view.slice (slotRect i)).set]{fullShare} f)

omit [FloatOps F] in
instance slot_storable (M) (c : Dev nD) (i : Fin 8) (v) : BI.Storable (upEmb : UEmb _ 𝕄) (slot (F := F) M c i v) := by
  unfold slot; infer_instance

omit [FloatOps F] in
instance slotAny_storable (M) (c : Dev nD) (i : Fin 8) : BI.Storable (upEmb : UEmb _ 𝕄) (slotAny (F := F) M c i) := by
  unfold slotAny; infer_instance

omit [FloatOps F] in
/-- A slot read as `v` is a slot. -/
theorem slot_forget (M) (c : Dev nD) (i : Fin 8) (v) : (slot M c i v : sProp 𝕄) ⊢ slotAny M c i := by
  unfold slot slotAny owns
  iintro ⟨%f, -, H⟩
  iexists f; iexact H

omit [FloatOps F] in
/-- A slot reads as something. -/
theorem slot_some (M) (c : Dev nD) (i : Fin 8) : (slotAny M c i : sProp 𝕄) ⊢ iprop(∃ v, slot M c i v) := by
  unfold slot slotAny owns
  iintro ⟨%f, H⟩
  iexists _, f
  isplitr; · ipureintro; rfl
  iexact H

/-- The slots are pairwise disjoint. -/
theorem slots_disjoint (i j : Fin 8) (h : i ≠ j) : Disjoint (slotRect i).set (slotRect j).set := by
  refine Finset.disjoint_left.mpr fun z hi hj => h (Fin.ext ?_)
  have h1 := Rect.mem_set_unit.mp hi 0
  have h2 := Rect.mem_set_unit.mp hj 0
  simp at h1 h2
  omega

/-- The slots cover the buffer. -/
theorem slots_cover : (Finset.univ : Finset (Fin 8)).biUnion (fun i => (slotRect i).set) = Finset.univ := by
  refine Finset.eq_univ_iff_forall.mpr fun z => Finset.mem_biUnion.mpr ⟨z 0, Finset.mem_univ _, Rect.mem_set_unit.mpr fun a => ?_⟩
  have := (z a).isLt
  fin_cases a <;> simp_all

/-! ## The semaphores -/

/-- The semaphore of the transfer to device `j`, on the sender; that of the transfer from device `i`, on the receiver. -/
def sendS (j : Fin 8) : DmaSem sig := ⟨2 + j.val, by have := j.isLt; show 2 + j.val < 18; omega⟩
def recvS (i : Fin 8) : DmaSem sig := ⟨10 + i.val, by have := i.isLt; show 10 + i.val < 18; omega⟩

theorem sendS_inj {i j : Fin 8} : sendS i = sendS j ↔ i = j := by revert i j; decide
theorem recvS_inj {i j : Fin 8} : recvS i = recvS j ↔ i = j := by revert i j; decide
theorem sendS_ne_recvS (i j : Fin 8) : sendS i ≠ recvS j := by revert i j; decide

abbrev barCell (c : Dev nD) : GSem nD τ sig := ((c : Thread nD τ), .reg barrier0)
abbrev sendCell (c : Dev nD) (j : Fin 8) : GSem nD τ sig := ((c : Thread nD τ), .dma (sendS j))
abbrev recvCell (c : Dev nD) (i : Fin 8) : GSem nD τ sig := ((c : Thread nD τ), .dma (recvS i))

/-- A device's semaphores: its own (scoped) ones, and with its barrier. -/
abbrev OK : Type := Fin 8 ⊕ Fin 8
abbrev CK : Type := Unit ⊕ OK
abbrev osem : OK → SemLoc sig := Sum.elim (fun j => .dma (sendS j)) (fun i => .dma (recvS i))
abbrev csem : CK → SemLoc sig := Sum.elim (fun _ => .reg barrier0) osem
abbrev kcell (ck : Dev nD × CK) : GSem nD τ sig := ((ck.1 : Thread nD τ), csem ck.2)

theorem csem_injective : Function.Injective csem := by decide

theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]

/-- What one slot's transfer adds to a semaphore. -/
def N : ℕ := ((slotM rM 0).squeeze S256x256 squeezes_S1x256x256_S256x256).view.dmaCredit
theorem N_pos : 0 < N := View.dmaCredit_pos _ (by decide)

/-! ## The schedule -/

/-- One round. A barrier has one duty of one unit per other device; a transfer's semaphore the one duty named by the
    device at the other end, of a slot's credit — none when that is the owner itself. -/
def sched : Rounds.Schedule (GSem nD τ sig) (Dev nD) 𝕄 where
  duties g r := if r = 0 ∧ g.1.2 = .tc then
      match g.2 with
      | .reg _ => Finset.univ.erase g.1.1
      | .dma q => Finset.univ.filter fun d => d ≠ g.1.1 ∧ (q = sendS d ∨ q = recvS d)
    else ∅
  unitless _ := False
  amount g _ _ := match g.2 with | .reg _ => 1 | .dma _ => N
  payload g _ d := match g.2 with
    | .reg _ => slotAny rM d g.1.1
    | .dma q => if q = sendS d then slot sM g.1.1 d (blk m g.1.1 d) else slot rM g.1.1 d (blk m d g.1.1)
  amount_pos g _ _ _ := by
    rcases g with ⟨t, sm⟩
    cases sm with
    | reg s => exact Nat.one_pos
    | dma q => exact N_pos

instance sched_payload_storable (g : GSem nD τ sig) (r : ℕ) (d : Dev nD) :
    BI.Storable (upEmb : UEmb _ 𝕄) ((sched (F := F) m).payload g r d) := by
  rcases g with ⟨t, sm⟩
  cases sm with
  | reg s => exact slotAny_storable _ _ _
  | dma q => show BI.Storable upEmb (if _ then _ else _); split <;> infer_instance

section Tables
variable (c d : Dev nD)

omit [FloatOps F] in
theorem duties_bar : (sched (F := F) m).duties (barCell c) 0 = Finset.univ.erase c := by
  dsimp only [sched]; exact if_pos ⟨rfl, rfl⟩
omit [FloatOps F] in
theorem duties_send : (sched (F := F) m).duties (sendCell c d) 0 = if d = c then ∅ else {d} := by
  dsimp only [sched]; rw [if_pos ⟨rfl, rfl⟩]
  ext e
  have h : (sendS d = sendS e ∨ sendS d = recvS e) ↔ d = e :=
    ⟨fun h => h.elim sendS_inj.mp fun h => absurd h (sendS_ne_recvS _ _), fun h => .inl (sendS_inj.mpr h)⟩
  by_cases hdc : d = c <;> simp only [Finset.mem_filter, Finset.mem_univ, true_and, h] <;> simp [hdc] <;> aesop
omit [FloatOps F] in
theorem duties_recv : (sched (F := F) m).duties (recvCell c d) 0 = if d = c then ∅ else {d} := by
  dsimp only [sched]; rw [if_pos ⟨rfl, rfl⟩]
  ext e
  have h : (recvS d = sendS e ∨ recvS d = recvS e) ↔ d = e :=
    ⟨fun h => h.elim (fun h => absurd h.symm (sendS_ne_recvS _ _)) recvS_inj.mp, fun h => .inr (recvS_inj.mpr h)⟩
  by_cases hdc : d = c <;> simp only [Finset.mem_filter, Finset.mem_univ, true_and, h] <;> simp [hdc] <;> aesop
omit [FloatOps F] in
theorem duties_later (g : GSem nD τ sig) : ∀ r, 1 ≤ r → (sched (F := F) m).duties g r = ∅ :=
  fun r hr => by dsimp only [sched]; exact if_neg fun h => by omega
omit [FloatOps F] in
/-- The two semaphores no transfer uses have no duty at all. -/
theorem duties_own : (∀ r, 0 ≤ r → (sched (F := F) m).duties (sendCell c c) r = ∅) ∧ ∀ r, 0 ≤ r → (sched (F := F) m).duties (recvCell c c) r = ∅ := by
  constructor <;> intro r _ <;> rcases r with _ | r
  · rw [duties_send, if_pos rfl]
  · exact duties_later m _ _ (by omega)
  · rw [duties_recv, if_pos rfl]
  · exact duties_later m _ _ (by omega)

omit [FloatOps F] in
theorem amount_bar : (sched (F := F) m).amount (barCell c) 0 d = 1 := rfl
omit [FloatOps F] in
theorem amount_dma (q : DmaSem sig) : (sched (F := F) m).amount ((c : Thread nD τ), .dma q) 0 d = N := rfl
omit [FloatOps F] in
theorem expect_bar : (sched (F := F) m).expect (barCell c) 0 = 7 := by
  unfold Schedule.expect Schedule.amountOf
  rw [duties_bar, Finset.sum_congr rfl fun d _ => amount_bar m c d]
  revert c; decide
omit [FloatOps F] in
theorem expect_send (h : d ≠ c) : (sched (F := F) m).expect (sendCell c d) 0 = N := by
  unfold Schedule.expect Schedule.amountOf; rw [duties_send, if_neg h, Finset.sum_singleton, amount_dma]
omit [FloatOps F] in
theorem expect_recv (h : d ≠ c) : (sched (F := F) m).expect (recvCell c d) 0 = N := by
  unfold Schedule.expect Schedule.amountOf; rw [duties_recv, if_neg h, Finset.sum_singleton, amount_dma]
omit [FloatOps F] in
theorem payload_bar : (sched (F := F) m).payload (barCell c) 0 d = slotAny rM d c := rfl
omit [FloatOps F] in
theorem payload_send : (sched (F := F) m).payload (sendCell c d) 0 d = slot sM c d (blk m c d) := if_pos rfl
omit [FloatOps F] in
theorem payload_recv : (sched (F := F) m).payload (recvCell c d) 0 d = slot rM c d (blk m d c) :=
  if_neg (sendS_ne_recvS d d).symm

omit [FloatOps F] in
/-- What the barrier's wait hands over: every other device's slot for this one. -/
theorem rest_bar : bigSep ((sched (F := F) m).duties (barCell c) 0 \ ∅) (fun d => (sched (F := F) m).payload (barCell c) 0 d)
    = bigSep (Finset.univ.erase c) fun d => slotAny rM d c := by
  rw [Finset.sdiff_empty, duties_bar]; rfl
omit [FloatOps F] in
theorem rest_send (h : d ≠ c) : bigSep ((sched (F := F) m).duties (sendCell c d) 0 \ ∅) (fun e => (sched (F := F) m).payload (sendCell c d) 0 e)
    = slot sM c d (blk m c d) := by
  rw [Finset.sdiff_empty, duties_send, if_neg h, bigSep_singleton, payload_send]
omit [FloatOps F] in
theorem rest_recv (h : d ≠ c) : bigSep ((sched (F := F) m).duties (recvCell c d) 0 \ ∅) (fun e => (sched (F := F) m).payload (recvCell c d) 0 e)
    = slot rM c d (blk m d c) := by
  rw [Finset.sdiff_empty, duties_recv, if_neg h, bigSep_singleton, payload_recv]

end Tables

/-! ## What each device owes, and the levels -/

/-- Debts in the order they are paid. -/
def owe : List (CellTallies nD τ sig Unit) → CellTallies nD τ sig Unit
  | [] => 0
  | t :: ts => owe ts + t

/-- The unit device `c` owes the barrier of the device `k` places on; -/
def sigT (c k : Dev nD) : CellTallies nD τ sig Unit := tallyAt (barCell (c + k)) () 1
/-- the transfer it owes device `j`. -/
def sendT (c j : Dev nD) : CellTallies nD τ sig Unit := if j = c then 0 else tallyAt (recvCell j c) () N

def sendsT (c : Dev nD) : List (CellTallies nD τ sig Unit) := [sendT c 0, sendT c 1, sendT c 2, sendT c 3, sendT c 4, sendT c 5, sendT c 6, sendT c 7]
def debts (c : Dev nD) : List (CellTallies nD τ sig Unit) :=
  sigT c 1 :: sigT c 2 :: sigT c 3 :: sigT c 4 :: sigT c 5 :: sigT c 6 :: sigT c 7 :: sendsT c
def O₀ (c : Dev nD) : CellTallies nD τ sig Unit := owe (debts c)

theorem owe_pos {ts : List (CellTallies nD τ sig Unit)} {g : GSem nD τ sig} {u : Unit} (h : 0 < owe ts g u) : ∃ t ∈ ts, 0 < t g u := by
  induction ts with
  | nil => exact absurd h (Nat.lt_irrefl 0)
  | cons t ts ih =>
    rw [owe, Pi.add_apply, Finsupp.add_apply] at h
    rcases Nat.eq_zero_or_pos (t g u) with h0 | h0
    · obtain ⟨t', ht, h'⟩ := ih (by omega)
      exact ⟨t', List.mem_cons_of_mem _ ht, h'⟩
    · exact ⟨t, List.mem_cons_self, h0⟩

theorem sigT_pos {c k : Dev nD} {g : GSem nD τ sig} {u : Unit} (h : 0 < sigT c k g u) : g = barCell (c + k) := by
  unfold sigT at h; rw [tallyAt_apply] at h
  by_contra hn; rw [if_neg fun h' => hn h'.1] at h; exact absurd h (Nat.lt_irrefl 0)

theorem sendT_pos {c j : Dev nD} {g : GSem nD τ sig} {u : Unit} (h : 0 < sendT c j g u) : g = recvCell j c := by
  unfold sendT at h
  split at h
  · exact absurd h (Nat.lt_irrefl 0)
  · rw [tallyAt_apply] at h
    by_contra hn; rw [if_neg fun h' => hn h'.1] at h; exact absurd h (Nat.lt_irrefl 0)

theorem sends_pos {c : Dev nD} {g : GSem nD τ sig} {u : Unit} (h : 0 < owe (sendsT c) g u) : ∃ j, g = recvCell j c := by
  obtain ⟨t, ht, h⟩ := owe_pos h
  simp only [sendsT, List.mem_cons, List.not_mem_nil, or_false] at ht
  rcases ht with rfl | rfl | rfl | rfl | rfl | rfl | rfl | rfl <;> exact ⟨_, sendT_pos h⟩

theorem O₀_pos {c : Dev nD} {g : GSem nD τ sig} {u : Unit} (h : 0 < O₀ c g u) : (∃ d, g = barCell d) ∨ ∃ j, g = recvCell j c := by
  obtain ⟨t, ht, h⟩ := owe_pos h
  simp only [debts, sendsT, List.mem_cons, List.not_mem_nil, or_false] at ht
  rcases ht with rfl | rfl | rfl | rfl | rfl | rfl | rfl | rfl | rfl | rfl | rfl | rfl | rfl | rfl | rfl <;>
    first | exact .inl ⟨_, sigT_pos h⟩ | exact .inr ⟨_, sendT_pos h⟩

def L (g : GSem nD τ sig) : Finset Unit := if g.1.2 = .tc then {()} else ∅
/-- Staging and send semaphores at 0, barriers at 1, receive semaphores at 2. -/
def lv (g : GSem nD τ sig) (_ : Unit) : ℕ := match g.2 with | .reg _ => 1 | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Fin 8) : lv (recvCell c i) () = 2 := if_pos (Nat.le_add_right 10 i.val)

omit [FloatOps F] in
/-- Awaiting a staging semaphore is allowed before any debt is paid, and after all are. -/
theorem mayWait_stage (c : Dev nD) (q : DmaSem sig) (hq : ¬ 10 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact (if_neg hq).le)
      (fun g u hg => by
        rcases O₀_pos hg with ⟨d, rfl⟩ | ⟨d, rfl⟩
        · exact Nat.one_pos
        · rw [lv_recv]; decide)
  · rw [MayWait_zero]; iintro -; iempintro

omit [FloatOps F] in
/-- Awaiting the barrier is allowed while only transfers are owed. -/
theorem mayWait_bar (c : Dev nD) : (levAts L lv : sProp 𝕄) ⊢ MayWait (c : Thread nD τ) (.reg barrier0) () (owe (sendsT c)) :=
  MayOwe.of_cut (L := L) (lev := lv) 1 (fun p hp => by rw [Finset.mem_singleton.mp hp, L_tc]; exact Finset.mem_singleton_self _)
    (fun g u hg => by obtain ⟨j, rfl⟩ := sends_pos hg; exact Finset.mem_singleton_self _)
    (fun p hp => by rw [Finset.mem_singleton.mp hp]; exact le_rfl)
    (fun g u hg => by obtain ⟨j, rfl⟩ := sends_pos hg; rw [lv_recv]; decide)

/-! ## Products over the devices -/

omit [FloatOps F] in
/-- A product over the devices, from the next device round to this one. -/
theorem bigSep_round (c : Dev nD) (Φ : Dev nD → sProp 𝕄) : bigSep Finset.univ Φ
    = iprop(Φ (c + 1) ∗ Φ (c + 2) ∗ Φ (c + 3) ∗ Φ (c + 4) ∗ Φ (c + 5) ∗ Φ (c + 6) ∗ Φ (c + 7) ∗ Φ c) := by
  rw [bigSep_univ_eq_bigSepL [c + 1, c + 2, c + 3, c + 4, c + 5, c + 6, c + 7, c] (by revert c; decide) (by revert c; decide)]
  rfl

omit [FloatOps F] in
/-- A product over the slots, in order. -/
theorem bigSep_slots (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl

/-! ## The buffers and their slots as resources -/

omit [FloatOps F] in
/-- The send buffer held whole is its slots, -/
theorem stage_split (c : Dev nD) :
    (iprop(∃ f : Buf (Elt F) ((c : Thread nD τ).loc cc0_scratch0), ((c : Thread nD τ).loc cc0_scratch0) ↦{fullShare} f) : sProp 𝕄)
      ⊢ bigSep Finset.univ fun i : Fin 8 => slotAny sM c i := by
  unfold slotAny
  simp only [Memref.view_whole, View.set_slice_whole]
  refine exists_elim fun f => ?_
  refine (Entails.of_eq (Ring.pointsTo_blocks (ℓ := (c : Thread nD τ).loc cc0_scratch0) (fun i : Fin 8 => (slotRect i).set) slots_disjoint slots_cover f)).trans ?_
  have h (i : Fin 8) : (((c : Thread nD τ).loc cc0_scratch0) ↦[(slotRect i).set]{fullShare} f : sProp 𝕄)
      ⊢ iprop(∃ g : Buf (Elt F) ((c : Thread nD τ).loc cc0_scratch0), ((c : Thread nD τ).loc cc0_scratch0) ↦[(slotRect i).set]{fullShare} g) := by
    iintro H; iexists f; iexact H
  exact bigSep_mono fun i _ => h i

omit [FloatOps F] in
/-- and its slots make it whole again; -/
theorem stage_join (c : Dev nD) : (bigSep Finset.univ fun i : Fin 8 => slotAny sM c i)
    ⊢ (iprop(∃ f : Buf (Elt F) ((c : Thread nD τ).loc cc0_scratch0), ((c : Thread nD τ).loc cc0_scratch0) ↦{fullShare} f) : sProp 𝕄) := by
  unfold slotAny
  simp only [Memref.view_whole, View.set_slice_whole]
  refine (Entails.of_eq (bigSep_slots _)).trans ?_
  iintro ⟨⟨%f, H0⟩, H⟩
  iapply (Ring.pointsTo_blocks_join_exists (ℓ := (c : Thread nD τ).loc cc0_scratch0) (fun i : Fin 8 => (slotRect i).set) slots_disjoint slots_cover f)
  iapply (Entails.of_eq (bigSep_slots _).symm)
  isplitl [H0]; · iexists f; iexact H0
  iexact H

omit [FloatOps F] in
/-- likewise the receive buffer -/
theorem recv_split (c : Dev nD) :
    (iprop(∃ f : Buf (Elt F) ((c : Thread nD τ).loc cc0_scratch1), ((c : Thread nD τ).loc cc0_scratch1) ↦{fullShare} f) : sProp 𝕄)
      ⊢ bigSep Finset.univ fun i : Fin 8 => slotAny rM c i := by
  unfold slotAny
  simp only [Memref.view_whole, View.set_slice_whole]
  refine exists_elim fun f => ?_
  refine (Entails.of_eq (Ring.pointsTo_blocks (ℓ := (c : Thread nD τ).loc cc0_scratch1) (fun i : Fin 8 => (slotRect i).set) slots_disjoint slots_cover f)).trans ?_
  have h (i : Fin 8) : (((c : Thread nD τ).loc cc0_scratch1) ↦[(slotRect i).set]{fullShare} f : sProp 𝕄)
      ⊢ iprop(∃ g : Buf (Elt F) ((c : Thread nD τ).loc cc0_scratch1), ((c : Thread nD τ).loc cc0_scratch1) ↦[(slotRect i).set]{fullShare} g) := by
    iintro H; iexists f; iexact H
  exact bigSep_mono fun i _ => h i

omit [FloatOps F] in
/-- and its slots. -/
theorem recv_join (c : Dev nD) : (bigSep Finset.univ fun i : Fin 8 => slotAny rM c i)
    ⊢ (iprop(∃ f : Buf (Elt F) ((c : Thread nD τ).loc cc0_scratch1), ((c : Thread nD τ).loc cc0_scratch1) ↦{fullShare} f) : sProp 𝕄) := by
  unfold slotAny
  simp only [Memref.view_whole, View.set_slice_whole]
  refine (Entails.of_eq (bigSep_slots _)).trans ?_
  iintro ⟨⟨%f, H0⟩, H⟩
  iapply (Ring.pointsTo_blocks_join_exists (ℓ := (c : Thread nD τ).loc cc0_scratch1) (fun i : Fin 8 => (slotRect i).set) slots_disjoint slots_cover f)
  iapply (Entails.of_eq (bigSep_slots _).symm)
  isplitl [H0]; · iexists f; iexact H0
  iexact H

end Cert.Exchange
-- ==== Proof.Steps.lean ====
/-
# One step of the exchange at a time

One theorem per kind of operation the kernel makes: what it needs, and what the rest of the program may then assume. The
offsets and devices an operation names are variables equal to the slot or device meant, so each theorem serves every
operation of its kind.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s. -/
abbrev wpAt (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited on. -/
def debt (c : Dev nD) (O : CellTallies nD τ sig Unit) : sProp 𝕄 := iprop(∃ W, owes (c : Thread nD τ) O W)

/-- The protocol is in force on every semaphore, each at its round 0. -/
def records (K : Dev nD × CK → ℕ) : sProp 𝕄 :=
  iprop((bigSep Finset.univ fun ck : Dev nD × CK => cellInv EX (sched m) (K ck) (kcell ck))
    ∗ bigSep Finset.univ fun ck : Dev nD × CK => reached EX (kcell ck) 0)

instance records_persistent (K : Dev nD × CK → ℕ) : BI.Persistent (records m K) := by unfold records; infer_instance

section Steps

variable (K : Dev nD × CK → ℕ)

omit [FloatOps F] in
theorem records_inv (ck : Dev nD × CK) : records m K ⊢ cellInv EX (sched m) (K ck) (kcell ck) := by
  have h : (bigSep Finset.univ fun ck : Dev nD × CK => (cellInv EX (sched m) (K ck) (kcell ck) : sProp 𝕄)) ⊢ cellInv EX (sched m) (K ck) (kcell ck) :=
    bigSep_elim (Finset.mem_univ ck)
  unfold records
  iintro ⟨H, -⟩
  iapply h $$ H
omit [FloatOps F] in
theorem records_reached (ck : Dev nD × CK) : records m K ⊢ reached EX (kcell ck) 0 := by
  have h : (bigSep Finset.univ fun ck : Dev nD × CK => (reached EX (kcell ck) 0 : sProp 𝕄)) ⊢ reached EX (kcell ck) 0 :=
    bigSep_elim (Finset.mem_univ ck)
  unfold records
  iintro ⟨-, H⟩
  iapply h $$ H

omit [FloatOps F] in
theorem inv_bar (c : Dev nD) : records m K ⊢ cellInv EX (sched m) (K (c, .inl ())) (barCell c) := records_inv m K (c, .inl ())
omit [FloatOps F] in
theorem inv_send (c : Dev nD) (j : Fin 8) : records m K ⊢ cellInv EX (sched m) (K (c, .inr (.inl j))) (sendCell c j) := records_inv m K (c, .inr (.inl j))
omit [FloatOps F] in
theorem inv_recv (c : Dev nD) (i : Fin 8) : records m K ⊢ cellInv EX (sched m) (K (c, .inr (.inr i))) (recvCell c i) := records_inv m K (c, .inr (.inr i))
omit [FloatOps F] in
theorem reached_bar (c : Dev nD) : records m K ⊢ reached EX (barCell c) 0 := records_reached m K (c, .inl ())
omit [FloatOps F] in
theorem reached_send (c : Dev nD) (j : Fin 8) : records m K ⊢ reached EX (sendCell c j) 0 := records_reached m K (c, .inr (.inl j))
omit [FloatOps F] in
theorem reached_recv (c : Dev nD) (i : Fin 8) : records m K ⊢ reached EX (recvCell c i) 0 := records_reached m K (c, .inr (.inr i))

/-! ## Closing a semaphore -/

omit [FloatOps F] in
theorem close_bar (c : Dev nD) : iprop(records m K ∗ atPos EX (barCell c) (0 + 1) ∅ 0) ⊢ (|={Set.univ}=> semVal (barCell c) 0 : sProp 𝕄) := by
  iintro ⟨#HR, H⟩
  iapply (Rounds.cell_close EX (sched m) (Set.mem_univ (K (c, .inl ()))) (fun h => h) (R := 0 + 1) (duties_later m (barCell c)))
  isplitr; · iapply (inv_bar m K c); iexact HR
  iexact H
omit [FloatOps F] in
theorem close_send (c : Dev nD) (j : Fin 8) : iprop(records m K ∗ atPos EX (sendCell c j) (0 + 1) ∅ 0) ⊢ (|={Set.univ}=> semVal (sendCell c j) 0 : sProp 𝕄) := by
  iintro ⟨#HR, H⟩
  iapply (Rounds.cell_close EX (sched m) (Set.mem_univ (K (c, .inr (.inl j)))) (fun h => h) (R := 0 + 1) (duties_later m (sendCell c j)))
  isplitr; · iapply (inv_send m K c j); iexact HR
  iexact H
omit [FloatOps F] in
theorem close_recv (c : Dev nD) (i : Fin 8) : iprop(records m K ∗ atPos EX (recvCell c i) (0 + 1) ∅ 0) ⊢ (|={Set.univ}=> semVal (recvCell c i) 0 : sProp 𝕄) := by
  iintro ⟨#HR, H⟩
  iapply (Rounds.cell_close EX (sched m) (Set.mem_univ (K (c, .inr (.inr i)))) (fun h => h) (R := 0 + 1) (duties_later m (recvCell c i)))
  isplitr; · iapply (inv_recv m K c i); iexact HR
  iexact H
omit [FloatOps F] in
/-- A device's send and receive semaphores for itself close unused. -/
theorem close_own_send (c : Dev nD) : iprop(records m K ∗ atPos EX (sendCell c c) 0 ∅ 0) ⊢ (|={Set.univ}=> semVal (sendCell c c) 0 : sProp 𝕄) := by
  iintro ⟨#HR, H⟩
  iapply (Rounds.cell_close EX (sched m) (Set.mem_univ (K (c, .inr (.inl c)))) (fun h => h) (R := 0) (duties_own m c).1)
  isplitr; · iapply (inv_send m K c c); iexact HR
  iexact H
omit [FloatOps F] in
theorem close_own_recv (c : Dev nD) : iprop(records m K ∗ atPos EX (recvCell c c) 0 ∅ 0) ⊢ (|={Set.univ}=> semVal (recvCell c c) 0 : sProp 𝕄) := by
  iintro ⟨#HR, H⟩
  iapply (Rounds.cell_close EX (sched m) (Set.mem_univ (K (c, .inr (.inr c)))) (fun h => h) (R := 0) (duties_own m c).2)
  isplitr; · iapply (inv_recv m K c c); iexact HR
  iexact H

/-! ## The entry barrier -/

theorem step_signal (c n k : Dev nD) (hn : n = c + k) (b : Sem sig) (hb : b = barrier0) (hk : k ≠ 0) (ts : List (CellTallies nD τ sig Unit))
    {α : Type} {Q : α → sProp 𝕄} {p : PUnit → Prog (TpuEff nD τ sig (Elt F) Λ₀ .tc) α} :
    iprop(records m K ∗ debt c (owe (sigT c k :: ts)) ∗ dutyTok EX (barCell (c + k)) 0 c ∗ slotAny rM c (c + k))
      ⊢ iprop((debt c (owe ts) -∗ wpAt c (p ⟨⟩) Q) -∗ wpAt c (semSignalWord n b 1#32 >>= p) Q) := by
  subst hn hb
  have hck : c ≠ c + k := by revert c k; decide
  unfold debt
  iintro ⟨#HR, ⟨%W, HO⟩, Ht, Hs⟩ Hk
  simp only [semSignalWord, Prog.lift, Prog.bind_op, Prog.bind_ret, Prog.pure_eq_ret]
  iapply (Rounds.wp_signal 𝒱₀ EX (sched m) (c : Thread nD τ) none (dst := ((c + k : Dev nD) : Thread nD τ)) (κ := K (c + k, .inl ()))
      (d := c) (by rw [duties_bar]; exact Finset.mem_erase.mpr ⟨hck, Finset.mem_univ _⟩) ((amount_bar m (c + k) c).trans (by decide)) () (owe ts) rfl)
    $$ [HO Ht Hs]
  · isplitr; · iapply (inv_bar m K (c + k)); iexact HR
    isplitl [HO]; · iexact HO
    isplitl [Ht]; · iexact Ht
    isplitl [Hs]; · rw [payload_bar]; iexact Hs
    iapply (reached_bar m K (c + k)); iexact HR
  iintro HO
  iapply Hk
  iexists W; iexact HO

theorem step_barwait (c : Dev nD) (b : Sem sig) (hb : b = barrier0) {α : Type} {Q : α → sProp 𝕄} {p : PUnit → Prog (TpuEff nD τ sig (Elt F) Λ₀ .tc) α} :
    iprop(records m K ∗ levAts L lv ∗ debt c (owe (sendsT c)) ∗ cred (tallyAt (barCell c) () 7) ∗ atPos EX (barCell c) 0 ∅ 0)
      ⊢ iprop(((debt c (owe (sendsT c)) ∗ (bigSep (Finset.univ.erase c) fun d => slotAny rM d c) ∗ semVal (barCell c) 0) -∗ wpAt c (p ⟨⟩) Q)
          -∗ wpAt c (semWaitWord b 7#32 >>= p) Q) := by
  subst hb
  unfold debt
  iintro ⟨#HR, #Hl, ⟨%W, HO⟩, Hc, Hat⟩ Hk
  simp only [semWaitWord, Prog.lift, Prog.bind_op, Prog.bind_ret, Prog.pure_eq_ret]
  iapply (Rounds.wp_wait_rest_token 𝒱₀ EX (sched m) (c : Thread nD τ) none (κ := K (c, .inl ()))
      (wpE_semWait_eq 𝒱₀ (c : Thread nD τ) none Set.univ) (Set.mem_univ _) () (O := owe (sendsT c)) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_bar c); iexact Hl
    iexact Hat
  iintro ⟨HO, Hat, -, Hpay⟩
  ihave Hp := (Entails.of_eq (rest_bar m c)) $$ Hpay
  imod (close_bar m K c) $$ [Hat] with Hz
  · isplitr; · iexact HR
    iexact Hat
  iapply Hk
  isplitl [HO]; · iexists _; iexact HO
  isplitl [Hp] <;> iassumption

/-! ## Loads and stores -/

/-- The staged input on device `c`. -/
def xPts (c : Dev nD) : sProp 𝕄 := ((c : Thread nD τ).loc cc0_stg0_0) ↦{fullShare} xAt m c

/-- Loading column block `j` of the input. -/
theorem step_load_x (c : Dev nD) (j : Fin 8) (off : Fin 3 → ℕ) (hoff : off = ![0, 0, 256 * j.val])
    {inb : ∀ a, off a + S1x256x256.size a ≤ S1x256x2048.size a} {hl}
    {α : Type} {Q : α → sProp 𝕄} {p : Vec F S1x256x256 .bf16 → Prog (TpuEff nD τ sig (Elt F) Λ₀ .tc) α} :
    xPts m c ⊢ iprop((xPts m c -∗ wpAt c (p (blk m c j)) Q)
      -∗ wpAt c (Prog.lift (.load xM (Rect.unit (s := S1x256x2048) off S1x256x256.size inb).toLoadRect hl) >>= p) Q) := by
  subst hoff
  unfold xPts
  iintro Hx Hk
  simp only [Prog.lift, Prog.bind_op, Prog.bind_ret]
  iapply (wp_load_rect 𝒱₀ (c : Thread nD τ) none Set.univ (m := xM) (r := colRect j) (Finset.subset_univ _)) $$ Hx
  iintro Hx
  iapply Hk $$ Hx

/-- Loading a slot. -/
theorem step_load_slot (M : Memref sig .tc .vmem S8x256x256 .bf16) (c : Dev nD) (i : Fin 8) (v : Vec F S1x256x256 .bf16)
    (off : Fin 3 → ℕ) (hoff : off = ![i.val, 0, 0])
    {inb : ∀ a, off a + S1x256x256.size a ≤ S8x256x256.size a} {hl}
    {α : Type} {Q : α → sProp 𝕄} {p : Vec F S1x256x256 .bf16 → Prog (TpuEff nD τ sig (Elt F) Λ₀ .tc) α} :
    slot M c i v ⊢ iprop((slot M c i v -∗ wpAt c (p v) Q)
      -∗ wpAt c (Prog.lift (.load M (Rect.unit (s := S8x256x256) off S1x256x256.size inb).toLoadRect hl) >>= p) Q) := by
  subst hoff
  unfold slot owns
  iintro ⟨%f, %hf, H⟩ Hk
  simp only [Prog.lift, Prog.bind_op, Prog.bind_ret]
  iapply (wp_load_rect 𝒱₀ (c : Thread nD τ) none Set.univ (m := M) (r := slotRect i) (Finset.Subset.refl _)) $$ H
  iintro H
  rw [show (M.access (slotRect i)).read (Elt F) f = v from hf]
  iapply Hk
  iexists f
  isplitr; · ipureintro; exact hf
  iexact H

/-- Storing a slot. -/
theorem step_store (M : Memref sig .tc .vmem S8x256x256 .bf16) (c : Dev nD) (i : Fin 8) (v₀ v w : Vec F S1x256x256 .bf16) (hw : w = v)
    (off : Fin 3 → ℕ) (hoff : off = ![i.val, 0, 0])
    {inb : ∀ a, off a + S1x256x256.size a ≤ S8x256x256.size a} {hx hm}
    {α : Type} {Q : α → sProp 𝕄} {p : PUnit → Prog (TpuEff nD τ sig (Elt F) Λ₀ .tc) α} :
    slot M c i v₀ ⊢ iprop((slot M c i v -∗ wpAt c (p ⟨⟩) Q)
      -∗ wpAt c (Prog.lift (.store M (Rect.unit (s := S8x256x256) off S1x256x256.size inb) w Finset.univ hx hm) >>= p) Q) := by
  subst hoff hw
  unfold slot owns
  iintro ⟨%f, %hf, H⟩ Hk
  simp only [Prog.lift, Prog.bind_op, Prog.bind_ret]
  iapply (wp_store 𝒱₀ (c : Thread nD τ) none Set.univ (m := M) (r := slotRect i) (Mk := Finset.univ)
      (S := (M.view.slice (slotRect i)).set) (Finset.Subset.refl _)) $$ H
  iintro H
  iapply Hk
  iexists ((M.access (slotRect i)).write (Elt F) f w Finset.univ)
  isplitr; · ipureintro; exact View.read_write_univ (v := (slotM M i).view) f w
  iexact H

/-! ## The transfers -/

theorem sendS_at (j : Fin 8) (off : Fin 1 → ℕ) (hoff : off = ![j.val]) (inb : ∀ a, off a + S1.size a ≤ S8.size a) :
    ((cc0_scratch2.slice (Rect.unit (s := S8) off S1.size inb)).squeeze S_ squeezes_S1_S_).sem = sendS j := by
  subst hoff; revert j; decide +kernel
theorem recvS_at (i : Fin 8) (off : Fin 1 → ℕ) (hoff : off = ![i.val]) (inb : ∀ a, off a + S1.size a ≤ S8.size a) :
    ((cc0_scratch3.slice (Rect.unit (s := S8) off S1.size inb)).squeeze S_ squeezes_S1_S_).sem = recvS i := by
  subst hoff; revert i; decide +kernel

/-- Slot `i` of `M` as the transfers name it. -/
abbrev flatM (M : Memref sig .tc .vmem S8x256x256 .bf16) (i : Fin 8) : Memref sig .tc .vmem S256x256 .bf16 :=
  (slotM M i).squeeze S256x256 squeezes_S1x256x256_S256x256

omit [FloatOps F] in
/-- A slot's contents moved to another slot read the same there. -/
theorem landed_read (v₁ : View sig .tc .vmem S1x256x256 .bf16) (v₂ : View sig .tc .vmem S1x256x256 .bf16)
    (h : S256x256.numel = S1x256x256.numel) (fs : v₁.ty.Contents (Elt F)) (fd : v₂.ty.Contents (Elt F)) :
    v₂.read (Elt F) ((v₂.reshape S256x256 h).write (Elt F) fd ((v₁.reshape S256x256 h).read (Elt F) fs) Finset.univ) = v₁.read (Elt F) fs := by
  have e := View.read_write_univ (v := v₂.reshape S256x256 h) fd ((v₁.reshape S256x256 h).read (Elt F) fs)
  funext z
  have e' := congrFun e ((Shape.reshapeEquiv h).symm z)
  rw [View.read_apply, View.read_apply] at e'
  simp only [View.emb_reshape, Function.Embedding.trans_apply, Equiv.coe_toEmbedding, Equiv.apply_symm_apply] at e'
  exact e'

/-- The slot at offset `off` of `M` as a transfer names it, and the semaphore at offset `off` of an array. -/
abbrev slotAt (M : Memref sig .tc .vmem S8x256x256 .bf16) (off : Fin 3 → ℕ) (inb : ∀ a, off a + S1x256x256.size a ≤ S8x256x256.size a) :
    Memref sig .tc .vmem S256x256 .bf16 :=
  (M.slice (Rect.unit (s := S8x256x256) off S1x256x256.size inb) (fun _ => rfl)).squeeze S256x256 squeezes_S1x256x256_S256x256
abbrev semAt (A : DmaSems sig S8) (off : Fin 1 → ℕ) (inb : ∀ a, off a + S1.size a ≤ S8.size a) : DmaSem sig :=
  ((A.slice (Rect.unit (s := S8) off S1.size inb)).squeeze S_ squeezes_S1_S_).sem

theorem credit_stage (off inb) : (slotAt sM off inb).view.dmaCredit = N := rfl
theorem credit_recv (off inb) : (slotAt rM off inb).view.dmaCredit = N := rfl

/-- What device `c` needs of device `j` to send to it: `j`'s slot for `c`, when they differ. -/
def peer (c j : Dev nD) : sProp 𝕄 := if j = c then iprop(emp) else slotAny rM j c
/-- What it has while the transfer runs: credit on the send semaphore; its own block stays put. -/
def sent (c j : Dev nD) : sProp 𝕄 := if j = c then slot sM c j (blk m c j) else cred (tallyAt (sendCell c j) () N)

/-- A transfer from `c`'s slot for `j` to `j`'s slot for `c`. -/
theorem wp_transfer (c j n : Dev nD) (hcj : j ≠ c) (hn : n = j) (q₁ q₂ : DmaSem sig) (hq₁ : q₁ = sendS j) (hq₂ : q₂ = recvS c)
    (o₃ : Fin 3 → ℕ) (ho₃ : o₃ = ![c.val, 0, 0]) {i₃ : ∀ a, o₃ a + S1x256x256.size a ≤ S8x256x256.size a}
    (o₄ : Fin 3 → ℕ) (ho₄ : o₄ = ![j.val, 0, 0]) {i₄ : ∀ a, o₄ a + S1x256x256.size a ≤ S8x256x256.size a}
    {hsrc : (slotAt sM o₄ i₄).view.WordExact} {hdst : (slotAt rM o₃ i₃).view.WordExact}
    {hsem : DmaTarget.Typed .vmem (.dma q₂) (.remote (Dev.tc n : Thread nD τ) (slotAt rM o₃ i₃) (.dma q₁))}
    (O : CellTallies nD τ sig Unit) (W : Waits sig Unit)
    {α : Type} {Q : α → sProp 𝕄} {p : PUnit → Prog (TpuEff nD τ sig (Elt F) Λ₀ .tc) α} :
    iprop(records m K ∗ owes (c : Thread nD τ) (O + tallyAt (recvCell j c) () N) W ∗ slot sM c j (blk m c j) ∗ slotAny rM j c
        ∗ dutyTok EX (sendCell c j) 0 j ∗ dutyTok EX (recvCell j c) 0 c)
      ⊢ iprop(((owes (c : Thread nD τ) O W ∗ cred (tallyAt (sendCell c j) () N)) -∗ wpAt c (p ⟨⟩) Q)
          -∗ wpAt c (.op (.enqueueDma (slotAt sM o₄ i₄) (.remote (Dev.tc n) (slotAt rM o₃ i₃) (.dma q₁)) (.dma q₂) hsrc hdst hsem) p) Q) := by
  subst hn hq₁ hq₂ ho₃ ho₄
  have hs : (slotAt sM ![n.val, 0, 0] i₄).view.set = (slotM sM n).view.set := View.set_reshape _ _
  have hr : (slotAt rM ![c.val, 0, 0] i₃).view.set = (rM.view.slice (slotRect c)).set := View.set_reshape _ _
  unfold slot owns slotAny
  iintro ⟨#HR, HO, ⟨%fs, %hfs, Hs⟩, ⟨%fd, Hd⟩, Ht₁, Ht₂⟩ Hk
  iapply (Rounds.wp_send_pointsTo 𝒱₀ EX (sched m) (c : Thread nD τ) none (c' := ((n : Dev nD) : Thread nD τ)) (κ₁ := K (c, .inr (.inl n))) (κ₂ := K (n, .inr (.inr c)))
    (r₁ := 0) (r₂ := 0) (d₁ := n) (d₂ := c) (fs := fs) (fd := fd) (q := fullShare)
    (src := slotAt sM ![n.val, 0, 0] i₄) (dst := slotAt rM ![c.val, 0, 0] i₃) (sS := .dma (sendS n)) (sem := .dma (recvS c))
    (by rw [duties_send, if_neg hcj]; exact Finset.mem_singleton_self _) (by rw [duties_recv, if_neg hcj.symm]; exact Finset.mem_singleton_self _)
    () () N (credit_recv _ _) (amount_dma m c n (sendS n)) (amount_dma m n c (recvS c)) O rfl (W := W)
    (by
      rw [payload_send, hs]; unfold slot owns
      iintro H; iexists fs
      isplitr; · ipureintro; exact hfs
      iexact H)
    (by
      rw [payload_recv, hr]; unfold slot owns
      iintro H; iexists ((slotAt rM ![c.val, 0, 0] i₃).view.write (Elt F) fd ((slotAt sM ![n.val, 0, 0] i₄).view.read (Elt F) fs) Finset.univ)
      isplitr; · ipureintro; exact (landed_read (slotM sM n).view (slotM rM c).view _ fs fd).trans hfs
      iexact H)) $$ [HO Hs Hd Ht₁ Ht₂]
  · isplitr; · iapply (inv_send m K c n); iexact HR
    isplitr; · iapply (inv_recv m K n c); iexact HR
    isplitl [Hs]; · rw [hs]; iexact Hs
    isplitl [Hd]; · rw [hr]; iexact Hd
    isplitl [HO]; · iexact HO
    isplitl [Ht₁]; · iexact Ht₁
    isplitr; · iapply (reached_send m K c n); iexact HR
    isplitl [Ht₂]; · iexact Ht₂
    iapply (reached_recv m K n c); iexact HR
  iintro ⟨Hc, HO⟩
  iapply Hk
  isplitl [HO] <;> iassumption

/-- The transfer to device `j`, made unless that is `c` itself. -/
theorem step_send (c j : Dev nD) {C : Prop} [Decidable C] (hC : C ↔ j ≠ c) (ts : List (CellTallies nD τ sig Unit))
    (n : C → Dev nD) (hn : ∀ h, n h = j)
    (o₁ : Fin 1 → ℕ) (ho₁ : o₁ = ![j.val]) {i₁ : ∀ a, o₁ a + S1.size a ≤ S8.size a}
    (o₂ : Fin 1 → ℕ) (ho₂ : o₂ = ![c.val]) {i₂ : C → ∀ a, o₂ a + S1.size a ≤ S8.size a}
    (o₃ : Fin 3 → ℕ) (ho₃ : o₃ = ![c.val, 0, 0]) {i₃ : C → ∀ a, o₃ a + S1x256x256.size a ≤ S8x256x256.size a}
    (o₄ : Fin 3 → ℕ) (ho₄ : o₄ = ![j.val, 0, 0]) {i₄ : ∀ a, o₄ a + S1x256x256.size a ≤ S8x256x256.size a}
    {hsrc : C → (slotAt sM o₄ i₄).view.WordExact} {hdst : ∀ h : C, (slotAt rM o₃ (i₃ h)).view.WordExact}
    {hsem : ∀ h : C, DmaTarget.Typed .vmem (.dma (semAt cc0_scratch3 o₂ (i₂ h)))
      (.remote (Dev.tc (n h) : Thread nD τ) (slotAt rM o₃ (i₃ h)) (.dma (semAt cc0_scratch2 o₁ i₁)))}
    {α : Type} {Q : α → sProp 𝕄} {p : Prog (TpuEff nD τ sig (Elt F) Λ₀ .tc) α} :
    iprop(records m K ∗ debt c (owe (sendT c j :: ts)) ∗ slot sM c j (blk m c j) ∗ peer c j
        ∗ dutyTok EX (sendCell c j) 0 j ∗ dutyTok EX (recvCell j c) 0 c)
      ⊢ iprop(((debt c (owe ts) ∗ sent m c j) -∗ wpAt c p Q)
          -∗ wpAt c (if h : C then
                Prog.lift (.enqueueDma (slotAt sM o₄ i₄) (.remote (Dev.tc (n h)) (slotAt rM o₃ (i₃ h)) (.dma (semAt cc0_scratch2 o₁ i₁)))
                  (.dma (semAt cc0_scratch3 o₂ (i₂ h))) (hsrc h) (hdst h) (hsem h)) >>= fun _ => p
              else p) Q) := by
  by_cases hcj : j = c
  · have hn' : ¬ C := fun h => hC.mp h hcj
    rw [dif_neg hn']
    unfold sent; rw [if_pos hcj]
    iintro ⟨#HR, HO, Hs, -, -, -⟩ Hk
    iapply Hk
    rw [owe, sendT, if_pos hcj, add_zero]
    isplitl [HO] <;> iassumption
  · have h : C := hC.mpr hcj
    rw [dif_pos h]
    have hs₁ : semAt cc0_scratch2 o₁ i₁ = sendS j := sendS_at j o₁ ho₁ i₁
    have hs₂ : semAt cc0_scratch3 o₂ (i₂ h) = recvS c := recvS_at c o₂ ho₂ (i₂ h)
    unfold debt peer sent
    rw [if_neg hcj, if_neg hcj, owe, sendT, if_neg hcj]
    iintro ⟨#HR, ⟨%W, HO⟩, Hs, Hd, Ht₁, Ht₂⟩ Hk
    simp only [Prog.lift, Prog.bind_op, Prog.bind_ret]
    iapply (wp_transfer m K c j (n h) hcj (hn h) _ _ hs₁ hs₂ o₃ ho₃ o₄ ho₄ (owe ts) W) $$ [HO Hs Hd Ht₁ Ht₂]
    · isplitr; · iexact HR
      isplitl [HO]; · iexact HO
      isplitl [Hs]; · iexact Hs
      isplitl [Hd]; · iexact Hd
      isplitl [Ht₁] <;> iassumption
    iintro ⟨HO, Hc⟩
    iapply Hk
    isplitl [HO]; · iexists W; iexact HO
    iexact Hc

/-- Awaiting device `i`'s transfer: its block for `c` is in slot `i`, and the semaphore is done with. -/
theorem step_recv (c i : Dev nD) (hi : i ≠ c)
    (o₂ : Fin 1 → ℕ) (ho₂ : o₂ = ![i.val]) {i₂ : ∀ a, o₂ a + S1.size a ≤ S8.size a}
    (src : Memref sig .tc .vmem S256x256 .bf16)
    (o₃ : Fin 3 → ℕ) {i₃ : ∀ a, o₃ a + S1x256x256.size a ≤ S8x256x256.size a}
    {hsrc : src.view.WordExact} {hdst : (slotAt rM o₃ i₃).view.WordExact}
    {α : Type} {Q : α → sProp 𝕄} {p : PUnit → Prog (TpuEff nD τ sig (Elt F) Λ₀ .tc) α} :
    iprop(records m K ∗ debt c 0 ∗ cred (tallyAt (recvCell c i) () N) ∗ atPos EX (recvCell c i) 0 ∅ 0)
      ⊢ iprop(((debt c 0 ∗ slot rM c i (blk m i c) ∗ semVal (recvCell c i) 0) -∗ wpAt c (p ⟨⟩) Q)
          -∗ wpAt c (Prog.lift (.waitDma2 (semAt cc0_scratch3 o₂ i₂) src (slotAt rM o₃ i₃) hsrc hdst) >>= p) Q) := by
  rw [show semAt cc0_scratch3 o₂ i₂ = recvS i from recvS_at i o₂ ho₂ i₂, ← credit_recv o₃ i₃]
  unfold debt
  iintro ⟨#HR, ⟨%W, HO⟩, Hc, Hat⟩ Hk
  simp only [Prog.lift, Prog.bind_op, Prog.bind_ret]
  iapply (Rounds.wp_wait_rest_token 𝒱₀ EX (sched m) (c : Thread nD τ) none (κ := K (c, .inr (.inr i))) (sm := .dma (recvS i))
      (wpE_waitDma2_eq 𝒱₀ (c : Thread nD τ) none Set.univ) (Set.mem_univ _) () (O := 0) (W := W) (R := 0) (m := 0) (T := ∅)
      (by rw [Nat.zero_add, expect_recv m c i hi]; exact credit_recv _ _)) $$ [Hc HO Hat]
  · isplitr; · iapply (inv_recv m K c i); iexact HR
    isplitl [Hc]; · iexact Hc
    isplitl [HO]; · iexact HO
    isplitr; · rw [MayWait_zero]; iempintro
    iexact Hat
  iintro ⟨HO, Hat, -, Hpay⟩
  ihave Hs := (Entails.of_eq (rest_recv m c i hi)) $$ Hpay
  imod (close_recv m K c i) $$ [Hat] with Hz
  · isplitr; · iexact HR
    iexact Hat
  iapply Hk
  isplitl [HO]; · iexists _; iexact HO
  isplitl [Hs] <;> iassumption

/-- Awaiting `c`'s own transfer to device `j`, unless that is `c` itself: the slot is back and the semaphore done with. -/
theorem step_done (c j : Dev nD) {C : Prop} [Decidable C] (hC : C ↔ j ≠ c)
    (o₁ : Fin 1 → ℕ) (ho₁ : o₁ = ![j.val]) {i₁ : ∀ a, o₁ a + S1.size a ≤ S8.size a}
    (src : C → Memref sig .tc .vmem S256x256 .bf16)
    (o₄ : Fin 3 → ℕ) {i₄ : ∀ a, o₄ a + S1x256x256.size a ≤ S8x256x256.size a}
    {hsrc : ∀ h : C, (src h).view.WordExact} {hdst : C → (slotAt sM o₄ i₄).view.WordExact}
    {α : Type} {Q : α → sProp 𝕄} {p : Prog (TpuEff nD τ sig (Elt F) Λ₀ .tc) α} :
    iprop(records m K ∗ debt c 0 ∗ sent m c j ∗ atPos EX (sendCell c j) 0 ∅ 0)
      ⊢ iprop(((debt c 0 ∗ slotAny sM c j ∗ semVal (sendCell c j) 0) -∗ wpAt c p Q)
          -∗ wpAt c (if h : C then
                Prog.lift (.waitDma2 (semAt cc0_scratch2 o₁ i₁) (src h) (slotAt sM o₄ i₄) (hsrc h) (hdst h)) >>= fun _ => p
              else p) Q) := by
  rw [show semAt cc0_scratch2 o₁ i₁ = sendS j from sendS_at j o₁ ho₁ i₁]
  unfold sent
  by_cases hcj : j = c
  · have hn' : ¬ C := fun h => hC.mp h hcj
    rw [dif_neg hn', if_pos hcj]
    subst hcj
    iintro ⟨#HR, HO, Hs, Hat⟩ Hk
    imod (close_own_send m K j) $$ [Hat] with Hz
    · isplitr; · iexact HR
      iexact Hat
    iapply Hk
    isplitl [HO]; · iexact HO
    isplitl [Hs]; · iapply (slot_forget sM j j (blk m j j)) $$ Hs
    iexact Hz
  · have h : C := hC.mpr hcj
    rw [dif_pos h, if_neg hcj, ← credit_stage o₄ i₄]
    unfold debt
    iintro ⟨#HR, ⟨%W, HO⟩, Hc, Hat⟩ Hk
    simp only [Prog.lift, Prog.bind_op, Prog.bind_ret]
    iapply (Rounds.wp_wait_rest_token 𝒱₀ EX (sched m) (c : Thread nD τ) none (κ := K (c, .inr (.inl j))) (sm := .dma (sendS j))
        (wpE_waitDma2_eq 𝒱₀ (c : Thread nD τ) none Set.univ) (Set.mem_univ _) () (O := 0) (W := W) (R := 0) (m := 0) (T := ∅)
        (by rw [Nat.zero_add, expect_send m c j hcj]; exact credit_stage _ _)) $$ [Hc HO Hat]
    · isplitr; · iapply (inv_send m K c j); iexact HR
      isplitl [Hc]; · iexact Hc
      isplitl [HO]; · iexact HO
      isplitr; · rw [MayWait_zero]; iempintro
      iexact Hat
    iintro ⟨HO, Hat, -, Hpay⟩
    ihave Hs := (Entails.of_eq (rest_send m c j hcj)) $$ Hpay
    imod (close_send m K c j) $$ [Hat] with Hz
    · isplitr; · iexact HR
      iexact Hat
    iapply Hk
    isplitl [HO]; · iexists _; iexact HO
    isplitl [Hs]; · iapply (slot_forget sM c j (blk m c j)) $$ Hs
    iexact Hz

/-! ## The result's block -/

/-- The staged result on device `c`. -/
def oPts (c : Dev nD) (f : (cc0_stg1_0 : Ref sig .tc).ty.Contents (Elt F)) : sProp 𝕄 := ((c : Thread nD τ).loc cc0_stg1_0) ↦{fullShare} f

theorem zero_offs : (![0, 0] : Fin 2 → ℕ) = fun _ => 0 := by decide

/-- Loading the result's block, whatever is there. -/
theorem step_load_out (c : Dev nD) (f : (cc0_stg1_0 : Ref sig .tc).ty.Contents (Elt F)) {hl}
    {α : Type} {Q : α → sProp 𝕄} {p : Vec F S256x256 .f32 → Prog (TpuEff nD τ sig (Elt F) Λ₀ .tc) α} :
    oPts c f ⊢ iprop((oPts c f -∗ wpAt c (p f) Q)
      -∗ wpAt c (Prog.lift (.load oM (Rect.unit (s := S256x256) ![0, 0] S256x256.size inb_S256x256_S256x256_0_0).toLoadRect hl) >>= p) Q) := by
  unfold oPts
  iintro H Hk
  simp only [Prog.lift, Prog.bind_op, Prog.bind_ret]
  iapply (wp_load 𝒱₀ (c : Thread nD τ) none Set.univ (m := oM) (Finset.subset_univ _)) $$ H
  iintro H
  rw [show (oM : Memref sig .tc .vmem S256x256 .f32).view.readAt (Elt F) (Rect.unit (s := S256x256) ![0, 0] S256x256.size inb_S256x256_S256x256_0_0).toLoadRect f = f
    from Memref.readAt_unit_zero (Elt F) cc0_stg1_0 zero_offs _ f]
  iapply Hk $$ H

/-- Storing it whole. -/
theorem step_store_out (c : Dev nD) (f w : (cc0_stg1_0 : Ref sig .tc).ty.Contents (Elt F)) {hx hm}
    {α : Type} {Q : α → sProp 𝕄} {p : PUnit → Prog (TpuEff nD τ sig (Elt F) Λ₀ .tc) α} :
    oPts c f ⊢ iprop((oPts c w -∗ wpAt c (p ⟨⟩) Q)
      -∗ wpAt c (Prog.lift (.store oM (Rect.unit (s := S256x256) ![0, 0] S256x256.size inb_S256x256_S256x256_0_0) w Finset.univ hx hm) >>= p) Q) := by
  unfold oPts
  iintro H Hk
  simp only [Prog.lift, Prog.bind_op, Prog.bind_ret]
  iapply (wp_store 𝒱₀ (c : Thread nD τ) none Set.univ (m := oM) (r := Rect.unit (s := S256x256) ![0, 0] S256x256.size inb_S256x256_S256x256_0_0) (Mk := Finset.univ)
    (Finset.subset_univ _)) $$ H
  iintro H
  rw [show (oM.access (Rect.unit (s := S256x256) ![0, 0] S256x256.size inb_S256x256_S256x256_0_0)).write (Elt F) f w Finset.univ = w
    from Memref.write_access_unit_zero_univ (Elt F) cc0_stg1_0 zero_offs _ f w]
  iapply Hk $$ H

end Steps

end Cert.Exchange
-- ==== Proof.Body.lean ====
/-
# What the exchange does, part by part

Where the kernel's arithmetic points, and one theorem per part of the kernel: from the pieces it uses, each part runs and
leaves what the next one needs. Together: every device's slots come back, every semaphore is done with, and the staged
result is the sum, over the devices, of the column block each sent here.
-/
module

public import proofs.«01_k».proof.Proof.Steps
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where the kernel's arithmetic points -/

theorem dev1_at (c : Dev nD) : (⟨k0_dev1 c, k0_dev1_lt c⟩ : Dev nD) = c + 1 := by revert c; decide +kernel
theorem dev2_at (c : Dev nD) : (⟨k0_dev2 c, k0_dev2_lt c⟩ : Dev nD) = c + 2 := by revert c; decide +kernel
theorem dev3_at (c : Dev nD) : (⟨k0_dev3 c, k0_dev3_lt c⟩ : Dev nD) = c + 3 := by revert c; decide +kernel
theorem dev4_at (c : Dev nD) : (⟨k0_dev4 c, k0_dev4_lt c⟩ : Dev nD) = c + 4 := by revert c; decide +kernel
theorem dev5_at (c : Dev nD) : (⟨k0_dev5 c, k0_dev5_lt c⟩ : Dev nD) = c + 5 := by revert c; decide +kernel
theorem dev6_at (c : Dev nD) : (⟨k0_dev6 c, k0_dev6_lt c⟩ : Dev nD) = c + 6 := by revert c; decide +kernel
theorem dev7_at (c : Dev nD) : (⟨k0_dev7 c, k0_dev7_lt c⟩ : Dev nD) = c + 7 := by revert c; decide +kernel

/-- The conditions of the transfers to the eight devices, and of awaiting them. -/
theorem send_iff (c : Dev nD) : (k0_cond1 c = 1#1 ↔ (0 : Dev nD) ≠ c) ∧ (k0_cond2 c = 1#1 ↔ (1 : Dev nD) ≠ c) ∧ (k0_cond3 c = 1#1 ↔ (2 : Dev nD) ≠ c)
    ∧ (k0_cond4 c = 1#1 ↔ (3 : Dev nD) ≠ c) ∧ (k0_cond5 c = 1#1 ↔ (4 : Dev nD) ≠ c) ∧ (k0_cond6 c = 1#1 ↔ (5 : Dev nD) ≠ c)
    ∧ (k0_cond7 c = 1#1 ↔ (6 : Dev nD) ≠ c) ∧ (k0_cond8 c = 1#1 ↔ (7 : Dev nD) ≠ c) := by revert c; decide +kernel
theorem done_iff (c : Dev nD) : (k0_cond9 c = 1#1 ↔ (0 : Dev nD) ≠ c) ∧ (k0_cond10 c = 1#1 ↔ (1 : Dev nD) ≠ c) ∧ (k0_cond11 c = 1#1 ↔ (2 : Dev nD) ≠ c)
    ∧ (k0_cond12 c = 1#1 ↔ (3 : Dev nD) ≠ c) ∧ (k0_cond13 c = 1#1 ↔ (4 : Dev nD) ≠ c) ∧ (k0_cond14 c = 1#1 ↔ (5 : Dev nD) ≠ c)
    ∧ (k0_cond15 c = 1#1 ↔ (6 : Dev nD) ≠ c) ∧ (k0_cond16 c = 1#1 ↔ (7 : Dev nD) ≠ c) := by revert c; decide +kernel

/-- The device `r + 1` places on, as the receive semaphore's and the slot's offset. -/
theorem off18_at (c : Dev nD) (r : Fin 7) : k0_off18 c (BitVec.ofNat 32 (1 + r.val)) = ![(c + r.succ : Dev nD).val] := by
  rw [k0_off18_eq]; revert c r; decide
theorem off19_at (c : Dev nD) (r : Fin 7) : k0_off19 c (BitVec.ofNat 32 (1 + r.val)) = ![(c + r.succ : Dev nD).val, 0, 0] := by
  rw [k0_off19_eq]; revert c r; decide
theorem off20_at (c : Dev nD) (r : Fin 7) : k0_off20 c (BitVec.ofNat 32 (1 + r.val)) = ![(c + r.succ : Dev nD).val, 0, 0] := by
  rw [k0_off20_eq]; revert c r; decide

/-- The stored blocks are the loaded ones. -/
theorem pay1_eq (v : Vec F S1x256x256 .bf16) : k0_pay1 v = v := by unfold k0_pay1; exact shapeCast_shapeCast v _ _
theorem pay2_eq (v : Vec F S1x256x256 .bf16) : k0_pay2 v = v := pay1_eq v
theorem pay3_eq (v : Vec F S1x256x256 .bf16) : k0_pay3 v = v := pay1_eq v
theorem pay4_eq (v : Vec F S1x256x256 .bf16) : k0_pay4 v = v := pay1_eq v
theorem pay5_eq (v : Vec F S1x256x256 .bf16) : k0_pay5 v = v := pay1_eq v
theorem pay7_eq (v : Vec F S1x256x256 .bf16) : k0_pay7 (k0_pay6 v) = v := pay1_eq v
theorem pay8_eq (v : Vec F S1x256x256 .bf16) : k0_pay8 v = v := pay1_eq v
theorem pay9_eq (v : Vec F S1x256x256 .bf16) : k0_pay9 v = v := pay1_eq v

theorem add_ne (c : Dev nD) {k : Dev nD} (hk : k ≠ 0) : c + k ≠ c := by revert c k; decide

section Parts

variable (K : Dev nD × CK → ℕ) (c : Dev nD)
variable (h0 : (xM : Memref sig .tc .vmem S1x256x2048 .bf16).IsWhole) (h1 : (oM : Memref sig .tc .vmem S256x256 .f32).IsWhole)
  (h2 : (sM : Memref sig .tc .vmem S8x256x256 .bf16).IsWhole) (h3 : (rM : Memref sig .tc .vmem S8x256x256 .bf16).IsWhole)

/-! ## Several operations at a time -/

/-- A device's own name is its name. -/
theorem step_device {α : Type} {Q : α → sProp 𝕄} {p : Dev nD → Prog (TpuEff nD τ sig (Elt F) Λ₀ .tc) α} :
    wpAt c (p c) Q ⊢ wpAt c (Prog.lift .deviceId >>= p) Q := by
  simp only [Prog.lift, Prog.bind_op, Prog.bind_ret, wp_deviceId]; exact .rfl

/-- A program in two halves. -/
theorem step_bind {α β : Type} {Q : β → sProp 𝕄} {p : Prog (TpuEff nD τ sig (Elt F) Λ₀ .tc) α}
    {k : α → Prog (TpuEff nD τ sig (Elt F) Λ₀ .tc) β} : wpAt c p (fun a => wpAt c (k a) Q) ⊢ wpAt c (p >>= k) Q := by
  exact Entails.of_eq (wp_bind _ _ _ p k Q).symm

/-- A program whose last operation's value is returned. -/
theorem step_last {α : Type} {Q : α → sProp 𝕄} {p : Prog (TpuEff nD τ sig (Elt F) Λ₀ .tc) α} :
    wpAt c (p >>= pure) Q ⊢ wpAt c p Q := by
  rw [bind_pure]

/-- What raising the barrier of the device `k` places on takes. -/
def hand (k : Dev nD) : sProp 𝕄 := iprop(dutyTok EX (barCell (c + k)) 0 c ∗ slotAny rM c (c + k))
/-- What a transfer to device `j` takes of the sender's own: the slot to fill, and the two duties. -/
def outgoing (j : Dev nD) : sProp 𝕄 := iprop(slotAny sM c j ∗ dutyTok EX (sendCell c j) 0 j ∗ dutyTok EX (recvCell j c) 0 c)
/-- What awaiting device `i`'s transfer takes, and what it leaves. -/
def incoming (i : Dev nD) : sProp 𝕄 := iprop(cred (tallyAt (recvCell c i) () N) ∗ atPos EX (recvCell c i) 0 ∅ 0)
def arrived (i : Dev nD) : sProp 𝕄 := iprop(slot rM c i (blk m i c) ∗ semVal (recvCell c i) 0)
/-- What a sent slot leaves once it is awaited. -/
def back (j : Dev nD) : sProp 𝕄 := iprop(slotAny sM c j ∗ semVal (sendCell c j) 0)

/-- Raising the barrier of the device `k` places on. -/
theorem step_hand (n k : Dev nD) (hn : n = c + k) (b : Sem sig) (hb : b = barrier0) (hk : k ≠ 0) (ts : List (CellTallies nD τ sig Unit))
    {α : Type} {Q : α → sProp 𝕄} {p : PUnit → Prog (TpuEff nD τ sig (Elt F) Λ₀ .tc) α} :
    iprop(records m K ∗ debt c (owe (sigT c k :: ts)) ∗ hand c k)
      ⊢ iprop((debt c (owe ts) -∗ wpAt c (p ⟨⟩) Q) -∗ wpAt c (semSignalWord n b 1#32 >>= p) Q) := by
  refine .trans ?_ (step_signal m K c n k hn b hb hk ts)
  unfold hand; exact .rfl

omit [FloatOps F] in
/-- The barrier's yield, one device at a time. -/
theorem peers_intro : (bigSep (Finset.univ.erase c) fun d => slotAny rM d c) ⊢ (bigSep Finset.univ fun j : Dev nD => peer c j : sProp 𝕄) := by
  have e : (bigSep Finset.univ fun j : Dev nD => peer c j : sProp 𝕄) = iprop(emp ∗ bigSep (Finset.univ.erase c) fun d => slotAny rM d c) := by
    rw [bigSep_univ_at _ c, bigSep_congr (s := Finset.univ.erase c) (Ψ := fun d => slotAny rM d c) fun d hd => by
      unfold peer; rw [if_neg (Finset.ne_of_mem_erase hd)]]
    unfold peer; rw [if_pos rfl]
  rw [e]
  iintro H
  isplitr; · iempintro
  iexact H

/-- Filling the slot for device `j` (what it held is loaded and dropped). -/
theorem step_fill (j : Dev nD) (w : Vec F S1x256x256 .bf16) (hw : w = blk m c j)
    (off : Fin 3 → ℕ) (hoff : off = ![j.val, 0, 0]) {inb inb' : ∀ a, off a + S1x256x256.size a ≤ S8x256x256.size a} {hl hx hm}
    {α : Type} {Q : α → sProp 𝕄} {p : PUnit → Prog (TpuEff nD τ sig (Elt F) Λ₀ .tc) α} :
    slotAny sM c j ⊢ iprop((slot sM c j (blk m c j) -∗ wpAt c (p ⟨⟩) Q)
      -∗ wpAt c (Prog.lift (.load sM (Rect.unit (s := S8x256x256) off S1x256x256.size inb).toLoadRect hl) >>= fun _ =>
          Prog.lift (.store sM (Rect.unit (s := S8x256x256) off S1x256x256.size inb') w Finset.univ hx hm) >>= p) Q) := by
  refine (slot_some sM c j).trans ?_
  iintro ⟨%v, H⟩ Hk
  iapply (step_load_slot sM c j v off hoff) $$ H
  iintro H
  iapply (step_store sM c j v (blk m c j) w hw off hoff) $$ H
  iexact Hk

/-- Filling it and making the transfer. -/
theorem step_lane (j : Dev nD) {C : Prop} [Decidable C] (hC : C ↔ j ≠ c) (ts : List (CellTallies nD τ sig Unit))
    (w : Vec F S1x256x256 .bf16) (hw : w = blk m c j)
    (n : C → Dev nD) (hn : ∀ h, n h = j)
    (o₁ : Fin 1 → ℕ) (ho₁ : o₁ = ![j.val]) {i₁ : ∀ a, o₁ a + S1.size a ≤ S8.size a}
    (o₂ : Fin 1 → ℕ) (ho₂ : o₂ = ![c.val]) {i₂ : C → ∀ a, o₂ a + S1.size a ≤ S8.size a}
    (o₃ : Fin 3 → ℕ) (ho₃ : o₃ = ![c.val, 0, 0]) {i₃ : C → ∀ a, o₃ a + S1x256x256.size a ≤ S8x256x256.size a}
    (o₄ : Fin 3 → ℕ) (ho₄ : o₄ = ![j.val, 0, 0]) {i₄ i₅ i₆ : ∀ a, o₄ a + S1x256x256.size a ≤ S8x256x256.size a}
    {hl hx hm} {hsrc : C → (slotAt sM o₄ i₄).view.WordExact} {hdst : ∀ h : C, (slotAt rM o₃ (i₃ h)).view.WordExact}
    {hsem : ∀ h : C, DmaTarget.Typed .vmem (.dma (semAt cc0_scratch3 o₂ (i₂ h)))
      (.remote (Dev.tc (n h) : Thread nD τ) (slotAt rM o₃ (i₃ h)) (.dma (semAt cc0_scratch2 o₁ i₁)))}
    {α : Type} {Q : α → sProp 𝕄} {p : Prog (TpuEff nD τ sig (Elt F) Λ₀ .tc) α} :
    iprop(records m K ∗ debt c (owe (sendT c j :: ts)) ∗ outgoing c j ∗ peer c j)
      ⊢ iprop(((debt c (owe ts) ∗ sent m c j) -∗ wpAt c p Q)
          -∗ wpAt c (Prog.lift (.load sM (Rect.unit (s := S8x256x256) o₄ S1x256x256.size i₅).toLoadRect hl) >>= fun _ =>
              Prog.lift (.store sM (Rect.unit (s := S8x256x256) o₄ S1x256x256.size i₆) w Finset.univ hx hm) >>= fun _ =>
              if h : C then
                Prog.lift (.enqueueDma (slotAt sM o₄ i₄) (.remote (Dev.tc (n h)) (slotAt rM o₃ (i₃ h)) (.dma (semAt cc0_scratch2 o₁ i₁)))
                  (.dma (semAt cc0_scratch3 o₂ (i₂ h))) (hsrc h) (hdst h) (hsem h)) >>= fun _ => p
              else p) Q) := by
  unfold outgoing
  iintro ⟨#HR, HO, ⟨Hs, T₁, T₂⟩, Hp⟩ Hk
  iapply (step_fill m c j w hw o₄ ho₄) $$ Hs
  iintro Hs
  iapply (step_send m K c j hC ts n hn o₁ ho₁ o₂ ho₂ o₃ ho₃ o₄ ho₄) $$ [HO Hs Hp T₁ T₂]
  · isplitr; · iexact HR
    isplitl [HO]; · iexact HO
    isplitl [Hs]; · iexact Hs
    isplitl [Hp]; · iexact Hp
    isplitl [T₁] <;> iassumption
  iexact Hk

/-- Loading the slot a device keeps for itself. -/
theorem step_load_own (off : Fin 3 → ℕ) (hoff : off = ![c.val, 0, 0]) {inb : ∀ a, off a + S1x256x256.size a ≤ S8x256x256.size a} {hl}
    {α : Type} {Q : α → sProp 𝕄} {p : Vec F S1x256x256 .bf16 → Prog (TpuEff nD τ sig (Elt F) Λ₀ .tc) α} :
    (bigSep Finset.univ fun j : Dev nD => sent m c j)
      ⊢ iprop(((bigSep Finset.univ fun j : Dev nD => sent m c j) -∗ wpAt c (p (blk m c c)) Q)
          -∗ wpAt c (Prog.lift (.load sM (Rect.unit (s := S8x256x256) off S1x256x256.size inb).toLoadRect hl) >>= p) Q) := by
  have e : (bigSep Finset.univ fun j : Dev nD => sent m c j : sProp 𝕄)
      = iprop(slot sM c c (blk m c c) ∗ bigSep (Finset.univ.erase c) fun j => sent m c j) := by
    rw [bigSep_univ_at _ c, show (sent m c c : sProp 𝕄) = slot sM c c (blk m c c) by unfold sent; rw [if_pos rfl]]
  rw [e]
  iintro ⟨H, Hr⟩ Hk
  iapply (step_load_slot sM c c _ off hoff) $$ H
  iintro H
  iapply Hk
  isplitl [H] <;> iassumption

/-- Awaiting device `i`'s transfer. -/
theorem step_await (i : Dev nD) (hi : i ≠ c) (o₂ : Fin 1 → ℕ) (ho₂ : o₂ = ![i.val]) {i₂ : ∀ a, o₂ a + S1.size a ≤ S8.size a}
    (src : Memref sig .tc .vmem S256x256 .bf16) (o₃ : Fin 3 → ℕ) {i₃ : ∀ a, o₃ a + S1x256x256.size a ≤ S8x256x256.size a}
    {hsrc : src.view.WordExact} {hdst : (slotAt rM o₃ i₃).view.WordExact}
    {α : Type} {Q : α → sProp 𝕄} {p : PUnit → Prog (TpuEff nD τ sig (Elt F) Λ₀ .tc) α} :
    iprop(records m K ∗ debt c 0 ∗ incoming c i)
      ⊢ iprop(((debt c 0 ∗ arrived m c i) -∗ wpAt c (p ⟨⟩) Q)
          -∗ wpAt c (Prog.lift (.waitDma2 (semAt cc0_scratch3 o₂ i₂) src (slotAt rM o₃ i₃) hsrc hdst) >>= p) Q) := by
  refine .trans ?_ (step_recv m K c i hi o₂ ho₂ src o₃)
  unfold incoming; exact .rfl

/-- Loading what has arrived. -/
theorem step_load_arrived (i : Dev nD) (off : Fin 3 → ℕ) (hoff : off = ![i.val, 0, 0])
    {inb : ∀ a, off a + S1x256x256.size a ≤ S8x256x256.size a} {hl}
    {α : Type} {Q : α → sProp 𝕄} {p : Vec F S1x256x256 .bf16 → Prog (TpuEff nD τ sig (Elt F) Λ₀ .tc) α} :
    arrived m c i ⊢ iprop((arrived m c i -∗ wpAt c (p (blk m i c)) Q)
      -∗ wpAt c (Prog.lift (.load rM (Rect.unit (s := S8x256x256) off S1x256x256.size inb).toLoadRect hl) >>= p) Q) := by
  unfold arrived
  iintro ⟨H, Hz⟩ Hk
  iapply (step_load_slot rM c i _ off hoff) $$ H
  iintro H
  iapply Hk
  isplitl [H] <;> iassumption

/-- Awaiting device `i`'s transfer and loading it. -/
theorem step_take (i : Dev nD) (hi : i ≠ c) (o₂ : Fin 1 → ℕ) (ho₂ : o₂ = ![i.val]) {i₂ : ∀ a, o₂ a + S1.size a ≤ S8.size a}
    (src : Memref sig .tc .vmem S256x256 .bf16) (o₃ : Fin 3 → ℕ) {i₃ : ∀ a, o₃ a + S1x256x256.size a ≤ S8x256x256.size a}
    (off : Fin 3 → ℕ) (hoff : off = ![i.val, 0, 0]) {inb : ∀ a, off a + S1x256x256.size a ≤ S8x256x256.size a} {hl}
    {hsrc : src.view.WordExact} {hdst : (slotAt rM o₃ i₃).view.WordExact}
    {α : Type} {Q : α → sProp 𝕄} {p : Vec F S1x256x256 .bf16 → Prog (TpuEff nD τ sig (Elt F) Λ₀ .tc) α} :
    iprop(records m K ∗ debt c 0 ∗ incoming c i)
      ⊢ iprop(((debt c 0 ∗ arrived m c i) -∗ wpAt c (p (blk m i c)) Q)
          -∗ wpAt c (Prog.lift (.waitDma2 (semAt cc0_scratch3 o₂ i₂) src (slotAt rM o₃ i₃) hsrc hdst) >>= fun _ =>
            Prog.lift (.load rM (Rect.unit (s := S8x256x256) off S1x256x256.size inb).toLoadRect hl) >>= p) Q) := by
  iintro H Hk
  iapply (step_await m K c i hi o₂ ho₂ src o₃) $$ H
  iintro ⟨HO, Ha⟩
  iapply (step_load_arrived m c i off hoff) $$ Ha
  iintro Ha
  iapply Hk
  isplitl [HO] <;> iassumption

/-- Awaiting `c`'s own transfer to device `j`. -/
theorem step_back (j : Dev nD) {C : Prop} [Decidable C] (hC : C ↔ j ≠ c)
    (o₁ : Fin 1 → ℕ) (ho₁ : o₁ = ![j.val]) {i₁ : ∀ a, o₁ a + S1.size a ≤ S8.size a}
    (src : C → Memref sig .tc .vmem S256x256 .bf16)
    (o₄ : Fin 3 → ℕ) {i₄ : ∀ a, o₄ a + S1x256x256.size a ≤ S8x256x256.size a}
    {hsrc : ∀ h : C, (src h).view.WordExact} {hdst : C → (slotAt sM o₄ i₄).view.WordExact}
    {α : Type} {Q : α → sProp 𝕄} {p : Prog (TpuEff nD τ sig (Elt F) Λ₀ .tc) α} :
    iprop(records m K ∗ debt c 0 ∗ sent m c j ∗ atPos EX (sendCell c j) 0 ∅ 0)
      ⊢ iprop(((debt c 0 ∗ back c j) -∗ wpAt c p Q)
          -∗ wpAt c (if h : C then
                Prog.lift (.waitDma2 (semAt cc0_scratch2 o₁ i₁) (src h) (slotAt sM o₄ i₄) (hsrc h) (hdst h)) >>= fun _ => p
              else p) Q) := by
  unfold back; exact step_done m K c j hC o₁ ho₁ src o₄

/-! ## The kernel's parts -/

/-- Raising five of the seven barriers. -/
theorem part1_spec (ts : List (CellTallies nD τ sig Unit)) {Q : _ → sProp 𝕄} :
    iprop(records m K ∗ debt c (owe (sigT c 1 :: sigT c 2 :: sigT c 3 :: sigT c 4 :: sigT c 5 :: ts))
        ∗ hand c 1 ∗ hand c 2 ∗ hand c 3 ∗ hand c 4 ∗ hand c 5)
      ⊢ iprop((∀ b v2 v24 c8, ⌜b.sem = barrier0⌝ -∗ debt c (owe ts) -∗ Q ⟨c, v2, b, v24, c8⟩)
        -∗ wpAt c (k0_part1 (F := F) xM h0 oM h1 sM h2 rM h3 cc0_scratch2 cc0_scratch3) Q) := by
  rw [k0_part1_eq_skeleton]; unfold k0_part1_skel
  dsimp only
  iintro ⟨#HR, HO, H1, H2, H3, H4, H5⟩ Hk
  iapply (step_device c)
  iapply (step_hand m K c _ 1 (dev1_at c) _ rfl (by decide) _) $$ [HO H1]
  · isplitr; · iexact HR
    isplitl [HO] <;> iassumption
  iintro HO
  iapply (step_hand m K c _ 2 (dev2_at c) _ rfl (by decide) _) $$ [HO H2]
  · isplitr; · iexact HR
    isplitl [HO] <;> iassumption
  iintro HO
  iapply (step_hand m K c _ 3 (dev3_at c) _ rfl (by decide) _) $$ [HO H3]
  · isplitr; · iexact HR
    isplitl [HO] <;> iassumption
  iintro HO
  iapply (step_hand m K c _ 4 (dev4_at c) _ rfl (by decide) _) $$ [HO H4]
  · isplitr; · iexact HR
    isplitl [HO] <;> iassumption
  iintro HO
  iapply (step_hand m K c _ 5 (dev5_at c) _ rfl (by decide) _) $$ [HO H5]
  · isplitr; · iexact HR
    isplitl [HO] <;> iassumption
  iintro HO
  simp only [Prog.pure_eq_ret, wp_ret]
  imodintro
  iapply Hk $$ %_ %_ %_ %_ %rfl HO

/-- Raising the other two, filling two slots, waiting for everyone, and the first two transfers. -/
theorem part2_spec (v2 v24 c8 : BitVec 32) (b : Sems sig S_) (hb : b.sem = barrier0) {Q : _ → sProp 𝕄} :
    iprop(records m K ∗ levAts L lv ∗ debt c (owe (sigT c 6 :: sigT c 7 :: sendsT c)) ∗ hand c 6 ∗ hand c 7 ∗ xPts m c
        ∗ outgoing c 0 ∗ outgoing c 1 ∗ cred (tallyAt (barCell c) () 7) ∗ atPos EX (barCell c) 0 ∅ 0)
      ⊢ iprop(((debt c (owe [sendT c 2, sendT c 3, sendT c 4, sendT c 5, sendT c 6, sendT c 7]) ∗ xPts m c ∗ sent m c 0 ∗ sent m c 1
            ∗ peer c 2 ∗ peer c 3 ∗ peer c 4 ∗ peer c 5 ∗ peer c 6 ∗ peer c 7 ∗ semVal (barCell c) 0) -∗ Q (blk m c 2))
        -∗ wpAt c (k0_part2 (F := F) xM h0 oM h1 sM h2 rM h3 cc0_scratch2 cc0_scratch3 c v2 b v24 c8) Q) := by
  rw [k0_part2_eq_skeleton]; unfold k0_part2_skel
  dsimp only
  iintro ⟨#HR, #Hl, HO, H6, H7, Hx, G0, G1, Hc, Hat⟩ Hk
  iapply (step_hand m K c _ 6 (dev6_at c) _ hb (by decide) _) $$ [HO H6]
  · isplitr; · iexact HR
    isplitl [HO] <;> iassumption
  iintro HO
  iapply (step_hand m K c _ 7 (dev7_at c) _ hb (by decide) _) $$ [HO H7]
  · isplitr; · iexact HR
    isplitl [HO] <;> iassumption
  iintro HO
  iapply (step_load_x m c 0 _ rfl) $$ Hx
  iintro Hx
  unfold outgoing
  icases G0 with ⟨Hs, T₁, T₂⟩
  iapply (step_fill m c 0 _ (pay1_eq _) _ rfl) $$ Hs
  iintro Hs
  iapply (step_barwait m K c _ hb) $$ [HO Hc Hat]
  · isplitr; · iexact HR
    isplitr; · iexact Hl
    isplitl [HO]; · iexact HO
    isplitl [Hc] <;> iassumption
  iintro ⟨HO, Hp, Hz⟩
  ihave Hp := (peers_intro c) $$ Hp
  ihave Hp := (Entails.of_eq (bigSep_slots _)) $$ Hp
  icases Hp with ⟨P0, P1, P2, P3, P4, P5, P6, P7⟩
  iapply (step_send m K c 0 (send_iff c).1 _ _ (fun _ => rfl) _ rfl _ (k0_off1_eq c) _ (k0_off2_eq c) _ rfl) $$ [HO Hs P0 T₁ T₂]
  · isplitr; · iexact HR
    isplitl [HO]; · iexact HO
    isplitl [Hs]; · iexact Hs
    isplitl [P0]; · iexact P0
    isplitl [T₁] <;> iassumption
  iintro ⟨HO, S0⟩
  iapply (step_load_x m c 1 _ rfl) $$ Hx
  iintro Hx
  iapply (step_lane m K c 1 (send_iff c).2.1 _ _ (pay2_eq _) _ (fun _ => rfl) _ rfl _ (k0_off3_eq c) _ (k0_off4_eq c) _ rfl) $$ [HO G1 P1]
  · isplitr; · iexact HR
    isplitl [HO]; · iexact HO
    unfold outgoing
    isplitl [G1] <;> iassumption
  iintro ⟨HO, S1⟩
  iapply (step_last c)
  iapply (step_load_x m c 2 _ rfl) $$ Hx
  iintro Hx
  simp only [Prog.pure_eq_ret, wp_ret]
  imodintro
  iapply Hk
  isplitl [HO]; · iexact HO
  isplitl [Hx]; · iexact Hx
  isplitl [S0]; · iexact S0
  isplitl [S1]; · iexact S1
  isplitl [P2]; · iexact P2
  isplitl [P3]; · iexact P3
  isplitl [P4]; · iexact P4
  isplitl [P5]; · iexact P5
  isplitl [P6]; · iexact P6
  isplitl [P7] <;> iassumption

/-- Three more slots and transfers. -/
theorem part3_spec (v2 : BitVec 32) {Q : _ → sProp 𝕄} :
    iprop(records m K ∗ debt c (owe [sendT c 2, sendT c 3, sendT c 4, sendT c 5, sendT c 6, sendT c 7]) ∗ xPts m c
        ∗ outgoing c 2 ∗ outgoing c 3 ∗ outgoing c 4 ∗ slotAny sM c 5 ∗ peer c 2 ∗ peer c 3 ∗ peer c 4)
      ⊢ iprop(((debt c (owe [sendT c 5, sendT c 6, sendT c 7]) ∗ xPts m c ∗ sent m c 2 ∗ sent m c 3 ∗ sent m c 4 ∗ slotAny sM c 5) -∗ Q (k0_pay6 (blk m c 5)))
        -∗ wpAt c (k0_part3 (F := F) xM h0 oM h1 sM h2 rM h3 cc0_scratch2 cc0_scratch3 c v2 (blk m c 2)) Q) := by
  rw [k0_part3_eq_skeleton]; unfold k0_part3_skel
  dsimp only
  iintro ⟨#HR, HO, Hx, G2, G3, G4, G5, P2, P3, P4⟩ Hk
  iapply (step_lane m K c 2 (send_iff c).2.2.1 _ _ (pay3_eq _) _ (fun _ => rfl) _ rfl _ (k0_off5_eq c) _ (k0_off6_eq c) _ rfl) $$ [HO G2 P2]
  · isplitr; · iexact HR
    isplitl [HO]; · iexact HO
    isplitl [G2] <;> iassumption
  iintro ⟨HO, S2⟩
  iapply (step_load_x m c 3 _ rfl) $$ Hx
  iintro Hx
  iapply (step_lane m K c 3 (send_iff c).2.2.2.1 _ _ (pay4_eq _) _ (fun _ => rfl) _ rfl _ (k0_off7_eq c) _ (k0_off8_eq c) _ rfl) $$ [HO G3 P3]
  · isplitr; · iexact HR
    isplitl [HO]; · iexact HO
    isplitl [G3] <;> iassumption
  iintro ⟨HO, S3⟩
  iapply (step_load_x m c 4 _ rfl) $$ Hx
  iintro Hx
  iapply (step_lane m K c 4 (send_iff c).2.2.2.2.1 _ _ (pay5_eq _) _ (fun _ => rfl) _ rfl _ (k0_off9_eq c) _ (k0_off10_eq c) _ rfl) $$ [HO G4 P4]
  · isplitr; · iexact HR
    isplitl [HO]; · iexact HO
    isplitl [G4] <;> iassumption
  iintro ⟨HO, S4⟩
  iapply (step_load_x m c 5 _ rfl) $$ Hx
  iintro Hx
  ihave G5 := (slot_some sM c 5) $$ G5
  icases G5 with ⟨%v, G5⟩
  iapply (step_load_slot sM c 5 v _ rfl) $$ G5
  iintro G5
  simp only [Prog.pure_eq_ret, wp_ret]
  imodintro
  iapply Hk
  isplitl [HO]; · iexact HO
  isplitl [Hx]; · iexact Hx
  isplitl [S2]; · iexact S2
  isplitl [S3]; · iexact S3
  isplitl [S4]; · iexact S4
  iapply (slot_forget sM c 5 v) $$ G5

/-- The last three slots and transfers, and the block the device keeps. -/
theorem part4_spec (v2 : BitVec 32) {Q : _ → sProp 𝕄} :
    iprop(records m K ∗ debt c (owe [sendT c 5, sendT c 6, sendT c 7]) ∗ xPts m c
        ∗ outgoing c 5 ∗ outgoing c 6 ∗ outgoing c 7 ∗ peer c 5 ∗ peer c 6 ∗ peer c 7
        ∗ sent m c 0 ∗ sent m c 1 ∗ sent m c 2 ∗ sent m c 3 ∗ sent m c 4)
      ⊢ iprop((∀ v, (debt c 0 ∗ xPts m c ∗ bigSep Finset.univ fun j : Dev nD => sent m c j) -∗ Q ⟨k0_pay10 (blk m c c), v⟩)
        -∗ wpAt c (k0_part4 (F := F) xM h0 oM h1 sM h2 rM h3 cc0_scratch2 cc0_scratch3 c v2 (k0_pay6 (blk m c 5))) Q) := by
  rw [k0_part4_eq_skeleton]; unfold k0_part4_skel
  dsimp only
  iintro ⟨#HR, HO, Hx, G5, G6, G7, P5, P6, P7, S0, S1, S2, S3, S4⟩ Hk
  unfold outgoing
  icases G5 with ⟨Hs, T₁, T₂⟩
  ihave Hs := (slot_some sM c 5) $$ Hs
  icases Hs with ⟨%v, Hs⟩
  iapply (step_store sM c 5 v (blk m c 5) _ (pay7_eq _) _ rfl) $$ Hs
  iintro Hs
  iapply (step_send m K c 5 (send_iff c).2.2.2.2.2.1 _ _ (fun _ => rfl) _ rfl _ (k0_off11_eq c) _ (k0_off12_eq c) _ rfl) $$ [HO Hs P5 T₁ T₂]
  · isplitr; · iexact HR
    isplitl [HO]; · iexact HO
    isplitl [Hs]; · iexact Hs
    isplitl [P5]; · iexact P5
    isplitl [T₁] <;> iassumption
  iintro ⟨HO, S5⟩
  iapply (step_load_x m c 6 _ rfl) $$ Hx
  iintro Hx
  iapply (step_lane m K c 6 (send_iff c).2.2.2.2.2.2.1 _ _ (pay8_eq _) _ (fun _ => rfl) _ rfl _ (k0_off13_eq c) _ (k0_off14_eq c) _ rfl) $$ [HO G6 P6]
  · isplitr; · iexact HR
    isplitl [HO]; · iexact HO
    unfold outgoing
    isplitl [G6] <;> iassumption
  iintro ⟨HO, S6⟩
  iapply (step_load_x m c 7 _ rfl) $$ Hx
  iintro Hx
  iapply (step_lane m K c 7 (send_iff c).2.2.2.2.2.2.2 _ _ (pay9_eq _) _ (fun _ => rfl) _ rfl _ (k0_off15_eq c) _ (k0_off16_eq c) _ rfl) $$ [HO G7 P7]
  · isplitr; · iexact HR
    isplitl [HO]; · iexact HO
    unfold outgoing
    isplitl [G7] <;> iassumption
  iintro ⟨HO, S7⟩
  iapply (step_load_own m c _ (k0_off17_eq c)) $$ [S0 S1 S2 S3 S4 S5 S6 S7]
  · iapply (Entails.of_eq (bigSep_slots _).symm)
    isplitl [S0]; · iexact S0
    isplitl [S1]; · iexact S1
    isplitl [S2]; · iexact S2
    isplitl [S3]; · iexact S3
    isplitl [S4]; · iexact S4
    isplitl [S5]; · iexact S5
    isplitl [S6] <;> iassumption
  iintro HS
  simp only [Prog.pure_eq_ret, wp_ret]
  imodintro
  iapply Hk
  isplitl [HO]; · iexact HO
  isplitl [Hx] <;> iassumption

/-- Two blocks taken and added, -/
theorem part5_spec (v2 v101 : BitVec 32) (v : FVec F S256x256 .f32) {Q : _ → sProp 𝕄} :
    iprop(records m K ∗ debt c 0 ∗ incoming c (c + 1) ∗ incoming c (c + 2))
      ⊢ iprop((∀ w, (debt c 0 ∗ arrived m c (c + 1) ∗ arrived m c (c + 2)) -∗ Q ⟨k0_pay11 v (blk m (c + 1) c) (blk m (c + 2) c), w⟩)
        -∗ wpAt c (k0_part5 (F := F) xM h0 oM h1 sM h2 rM h3 cc0_scratch2 cc0_scratch3 c v2 v v101) Q) := by
  rw [k0_part5_eq_skeleton]; unfold k0_part5_skel
  dsimp only
  iintro ⟨#HR, HO, I1, I2⟩ Hk
  iapply (step_take m K c (c + 1) (add_ne c (by decide)) _ (off18_at c 0) _ _ _ (off20_at c 0)) $$ [HO I1]
  · isplitr; · iexact HR
    isplitl [HO] <;> iassumption
  iintro ⟨HO, A1⟩
  iapply (step_take m K c (c + 2) (add_ne c (by decide)) _ (off18_at c 1) _ _ _ (off20_at c 1)) $$ [HO I2]
  · isplitr; · iexact HR
    isplitl [HO] <;> iassumption
  iintro ⟨HO, A2⟩
  simp only [Prog.pure_eq_ret, wp_ret]
  imodintro
  iapply Hk
  isplitl [HO]; · iexact HO
  isplitl [A1] <;> iassumption

/-- two more, -/
theorem part6_spec (v2 v131 : BitVec 32) (v : FVec F S256x256 .f32) {Q : _ → sProp 𝕄} :
    iprop(records m K ∗ debt c 0 ∗ incoming c (c + 3) ∗ incoming c (c + 4))
      ⊢ iprop((∀ w, (debt c 0 ∗ arrived m c (c + 3) ∗ arrived m c (c + 4)) -∗ Q ⟨k0_pay12 v (blk m (c + 3) c) (blk m (c + 4) c), w⟩)
        -∗ wpAt c (k0_part6 (F := F) xM h0 oM h1 sM h2 rM h3 cc0_scratch2 cc0_scratch3 c v2 v v131) Q) := by
  rw [k0_part6_eq_skeleton]; unfold k0_part6_skel
  dsimp only
  iintro ⟨#HR, HO, I1, I2⟩ Hk
  iapply (step_take m K c (c + 3) (add_ne c (by decide)) _ (off18_at c 2) _ _ _ (off20_at c 2)) $$ [HO I1]
  · isplitr; · iexact HR
    isplitl [HO] <;> iassumption
  iintro ⟨HO, A1⟩
  iapply (step_take m K c (c + 4) (add_ne c (by decide)) _ (off18_at c 3) _ _ _ (off20_at c 3)) $$ [HO I2]
  · isplitr; · iexact HR
    isplitl [HO] <;> iassumption
  iintro ⟨HO, A2⟩
  simp only [Prog.pure_eq_ret, wp_ret]
  imodintro
  iapply Hk
  isplitl [HO]; · iexact HO
  isplitl [A1] <;> iassumption

/-- and two more; the last is awaited. -/
theorem part7_spec (v2 v161 : BitVec 32) (v : FVec F S256x256 .f32) {Q : _ → sProp 𝕄} :
    iprop(records m K ∗ debt c 0 ∗ incoming c (c + 5) ∗ incoming c (c + 6) ∗ incoming c (c + 7))
      ⊢ iprop(((debt c 0 ∗ arrived m c (c + 5) ∗ arrived m c (c + 6) ∗ arrived m c (c + 7)) -∗ Q (k0_pay13 v (blk m (c + 5) c) (blk m (c + 6) c)))
        -∗ wpAt c (k0_part7 (F := F) xM h0 oM h1 sM h2 rM h3 cc0_scratch2 cc0_scratch3 c v2 v v161) Q) := by
  rw [k0_part7_eq_skeleton]; unfold k0_part7_skel
  dsimp only
  iintro ⟨#HR, HO, I1, I2, I3⟩ Hk
  iapply (step_take m K c (c + 5) (add_ne c (by decide)) _ (off18_at c 4) _ _ _ (off20_at c 4)) $$ [HO I1]
  · isplitr; · iexact HR
    isplitl [HO] <;> iassumption
  iintro ⟨HO, A1⟩
  iapply (step_take m K c (c + 6) (add_ne c (by decide)) _ (off18_at c 5) _ _ _ (off20_at c 5)) $$ [HO I2]
  · isplitr; · iexact HR
    isplitl [HO] <;> iassumption
  iintro ⟨HO, A2⟩
  iapply (step_await m K c (c + 7) (add_ne c (by decide)) _ (off18_at c 6) _ _) $$ [HO I3]
  · isplitr; · iexact HR
    isplitl [HO] <;> iassumption
  iintro ⟨HO, A3⟩
  simp only [Prog.pure_eq_ret, wp_ret]
  imodintro
  iapply Hk
  isplitl [HO]; · iexact HO
  isplitl [A1]; · iexact A1
  isplitl [A2] <;> iassumption

/-- Device `c`'s result: its column block of every device's input, its own first, then round the devices. -/
def outAt : Vec F S256x256 .f32 :=
  k0_pay14 (k0_pay13 (k0_pay12 (k0_pay11 (k0_pay10 (blk m c c)) (blk m (c + 1) c) (blk m (c + 2) c)) (blk m (c + 3) c) (blk m (c + 4) c))
    (blk m (c + 5) c) (blk m (c + 6) c)) (blk m (c + 7) c)

/-- What the two phases take, one piece per other device. -/
def hands : sProp 𝕄 := iprop(hand c 1 ∗ hand c 2 ∗ hand c 3 ∗ hand c 4 ∗ hand c 5 ∗ hand c 6 ∗ hand c 7)
def inbox : sProp 𝕄 := iprop(incoming c (c + 1) ∗ incoming c (c + 2) ∗ incoming c (c + 3) ∗ incoming c (c + 4) ∗ incoming c (c + 5)
  ∗ incoming c (c + 6) ∗ incoming c (c + 7))
def inboxDone : sProp 𝕄 := iprop(arrived m c (c + 1) ∗ arrived m c (c + 2) ∗ arrived m c (c + 3) ∗ arrived m c (c + 4) ∗ arrived m c (c + 5)
  ∗ arrived m c (c + 6) ∗ arrived m c (c + 7))

/-- All but the last of the eight slots' returns. -/
theorem part8_spec (f : (cc0_stg1_0 : Ref sig .tc).ty.Contents (Elt F)) {Q : _ → sProp 𝕄} :
    iprop(records m K ∗ levAts L lv ∗ debt c (O₀ c) ∗ xPts m c ∗ oPts c f ∗ hands c ∗ (bigSep Finset.univ fun j : Dev nD => outgoing c j)
        ∗ inbox c ∗ (bigSep Finset.univ fun j : Dev nD => atPos EX (sendCell c j) 0 ∅ 0) ∗ cred (tallyAt (barCell c) () 7) ∗ atPos EX (barCell c) 0 ∅ 0)
      ⊢ iprop((∀ v w, (debt c 0 ∗ xPts m c ∗ oPts c (outAt m c) ∗ semVal (barCell c) 0 ∗ inboxDone m c
            ∗ back c 0 ∗ back c 1 ∗ back c 2 ∗ back c 3 ∗ back c 4 ∗ back c 5 ∗ back c 6 ∗ sent m c 7 ∗ atPos EX (sendCell c 7) 0 ∅ 0) -∗ Q ⟨c, v, w⟩)
        -∗ wpAt c (k0_part8 (F := F) xM h0 oM h1 sM h2 rM h3 cc0_scratch2 cc0_scratch3) Q) := by
  rw [k0_part8_eq_skeleton]; unfold k0_part8_skel
  dsimp only
  rw [bigSep_slots (fun j => outgoing c j), bigSep_slots (fun j => atPos EX (sendCell c j) 0 ∅ 0)]
  unfold hands inbox
  iintro ⟨#HR, #Hl, HO, Hx, Ho, ⟨H1, H2, H3, H4, H5, H6, H7⟩, ⟨G0, G1, G2, G3, G4, G5, G6, G7⟩, ⟨I1, I2, I3, I4, I5, I6, I7⟩,
    ⟨Z0, Z1, Z2, Z3, Z4, Z5, Z6, Z7⟩, Hc, Hat⟩ Hk
  iapply (step_bind c)
  iapply (part1_spec m K c h0 h1 h2 h3 (sigT c 6 :: sigT c 7 :: sendsT c)) $$ [HO H1 H2 H3 H4 H5]
  · isplitr; · iexact HR
    isplitl [HO]; · iexact HO
    isplitl [H1]; · iexact H1
    isplitl [H2]; · iexact H2
    isplitl [H3]; · iexact H3
    isplitl [H4] <;> iassumption
  iintro %b %v2 %v24 %c8 %hb HO
  dsimp only
  iapply (step_bind c)
  iapply (part2_spec m K c h0 h1 h2 h3 v2 v24 c8 b hb) $$ [HO H6 H7 Hx G0 G1 Hc Hat]
  · isplitr; · iexact HR
    isplitr; · iexact Hl
    isplitl [HO]; · iexact HO
    isplitl [H6]; · iexact H6
    isplitl [H7]; · iexact H7
    isplitl [Hx]; · iexact Hx
    isplitl [G0]; · iexact G0
    isplitl [G1]; · iexact G1
    isplitl [Hc] <;> iassumption
  iintro ⟨HO, Hx, S0, S1, P2, P3, P4, P5, P6, P7, Hz⟩
  iapply (step_bind c)
  unfold outgoing
  icases G5 with ⟨G5, T₁, T₂⟩
  iapply (part3_spec m K c h0 h1 h2 h3 v2) $$ [HO Hx G2 G3 G4 G5 P2 P3 P4]
  · isplitr; · iexact HR
    isplitl [HO]; · iexact HO
    isplitl [Hx]; · iexact Hx
    unfold outgoing
    isplitl [G2]; · iexact G2
    isplitl [G3]; · iexact G3
    isplitl [G4]; · iexact G4
    isplitl [G5]; · iexact G5
    isplitl [P2]; · iexact P2
    isplitl [P3] <;> iassumption
  iintro ⟨HO, Hx, S2, S3, S4, G5⟩
  iapply (step_bind c)
  iapply (part4_spec m K c h0 h1 h2 h3 v2) $$ [HO Hx G5 T₁ T₂ G6 G7 P5 P6 P7 S0 S1 S2 S3 S4]
  · isplitr; · iexact HR
    isplitl [HO]; · iexact HO
    isplitl [Hx]; · iexact Hx
    unfold outgoing
    isplitl [G5 T₁ T₂]
    · isplitl [G5]; · iexact G5
      isplitl [T₁] <;> iassumption
    isplitl [G6]; · iexact G6
    isplitl [G7]; · iexact G7
    isplitl [P5]; · iexact P5
    isplitl [P6]; · iexact P6
    isplitl [P7]; · iexact P7
    isplitl [S0]; · iexact S0
    isplitl [S1]; · iexact S1
    isplitl [S2]; · iexact S2
    isplitl [S3] <;> iassumption
  iintro %w4 ⟨HO, Hx, HS⟩
  dsimp only
  iapply (step_bind c)
  iapply (part5_spec m K c h0 h1 h2 h3 v2 w4) $$ [HO I1 I2]
  · isplitr; · iexact HR
    isplitl [HO]; · iexact HO
    isplitl [I1] <;> iassumption
  iintro %w5 ⟨HO, I1, I2⟩
  dsimp only
  iapply (step_bind c)
  iapply (part6_spec m K c h0 h1 h2 h3 v2 w5) $$ [HO I3 I4]
  · isplitr; · iexact HR
    isplitl [HO]; · iexact HO
    isplitl [I3] <;> iassumption
  iintro %w6 ⟨HO, I3, I4⟩
  dsimp only
  iapply (step_bind c)
  iapply (part7_spec m K c h0 h1 h2 h3 v2 w6) $$ [HO I5 I6 I7]
  · isplitr; · iexact HR
    isplitl [HO]; · iexact HO
    isplitl [I5]; · iexact I5
    isplitl [I6] <;> iassumption
  iintro ⟨HO, I5, I6, I7⟩
  iapply (step_load_arrived m c (c + 7) _ (off20_at c 6)) $$ I7
  iintro I7
  iapply (step_load_out c f) $$ Ho
  iintro Ho
  iapply (step_store_out c f _) $$ Ho
  iintro Ho
  ihave HS := (Entails.of_eq (bigSep_slots _)) $$ HS
  icases HS with ⟨S0, S1, S2, S3, S4, S5, S6, S7⟩
  iapply (step_back m K c 0 (done_iff c).1 _ rfl _ _) $$ [HO S0 Z0]
  · isplitr; · iexact HR
    isplitl [HO]; · iexact HO
    isplitl [S0] <;> iassumption
  iintro ⟨HO, B0⟩
  iapply (step_back m K c 1 (done_iff c).2.1 _ rfl _ _) $$ [HO S1 Z1]
  · isplitr; · iexact HR
    isplitl [HO]; · iexact HO
    isplitl [S1] <;> iassumption
  iintro ⟨HO, B1⟩
  iapply (step_back m K c 2 (done_iff c).2.2.1 _ rfl _ _) $$ [HO S2 Z2]
  · isplitr; · iexact HR
    isplitl [HO]; · iexact HO
    isplitl [S2] <;> iassumption
  iintro ⟨HO, B2⟩
  iapply (step_back m K c 3 (done_iff c).2.2.2.1 _ rfl _ _) $$ [HO S3 Z3]
  · isplitr; · iexact HR
    isplitl [HO]; · iexact HO
    isplitl [S3] <;> iassumption
  iintro ⟨HO, B3⟩
  iapply (step_back m K c 4 (done_iff c).2.2.2.2.1 _ rfl _ _) $$ [HO S4 Z4]
  · isplitr; · iexact HR
    isplitl [HO]; · iexact HO
    isplitl [S4] <;> iassumption
  iintro ⟨HO, B4⟩
  iapply (step_back m K c 5 (done_iff c).2.2.2.2.2.1 _ rfl _ _) $$ [HO S5 Z5]
  · isplitr; · iexact HR
    isplitl [HO]; · iexact HO
    isplitl [S5] <;> iassumption
  iintro ⟨HO, B5⟩
  iapply (step_back m K c 6 (done_iff c).2.2.2.2.2.2.1 _ rfl _ _) $$ [HO S6 Z6]
  · isplitr; · iexact HR
    isplitl [HO]; · iexact HO
    isplitl [S6] <;> iassumption
  iintro ⟨HO, B6⟩
  simp only [Prog.pure_eq_ret, wp_ret]
  imodintro
  iapply Hk
  unfold inboxDone
  isplitl [HO]; · iexact HO
  isplitl [Hx]; · iexact Hx
  isplitl [Ho]; · iexact Ho
  isplitl [Hz]; · iexact Hz
  isplitl [I1 I2 I3 I4 I5 I6 I7]
  · isplitl [I1]; · iexact I1
    isplitl [I2]; · iexact I2
    isplitl [I3]; · iexact I3
    isplitl [I4]; · iexact I4
    isplitl [I5]; · iexact I5
    isplitl [I6] <;> iassumption
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [S7] <;> iassumption

/-- The whole kernel: every device's slots come back, every semaphore is done with, and the result is in place. -/
theorem body_spec (f : (cc0_stg1_0 : Ref sig .tc).ty.Contents (Elt F)) {Q : PUnit → sProp 𝕄} :
    iprop(records m K ∗ levAts L lv ∗ debt c (O₀ c) ∗ xPts m c ∗ oPts c f
        ∗ (bigSep Finset.univ fun d : Dev nD => iprop(dutyTok EX (barCell d) 0 c ∗ slotAny rM c d))
        ∗ (bigSep Finset.univ fun j : Dev nD => outgoing c j)
        ∗ (bigSep Finset.univ fun i : Dev nD => iprop(cred (tallyAt (recvCell c i) () (if i = c then 0 else N)) ∗ atPos EX (recvCell c i) 0 ∅ 0))
        ∗ (bigSep Finset.univ fun j : Dev nD => atPos EX (sendCell c j) 0 ∅ 0) ∗ cred (tallyAt (barCell c) () 7) ∗ atPos EX (barCell c) 0 ∅ 0)
      ⊢ iprop(((debt c 0 ∗ xPts m c ∗ oPts c (outAt m c) ∗ semVal (barCell c) 0
            ∗ (bigSep Finset.univ fun i : Dev nD => iprop(slotAny rM c i ∗ semVal (recvCell c i) 0)) ∗ bigSep Finset.univ fun j : Dev nD => back c j) -∗ Q ⟨⟩)
        -∗ wpAt c (cc0_body (F := F) xM h0 oM h1 sM h2 rM h3 cc0_scratch2 cc0_scratch3) Q) := by
  rw [cc0_body_eq_skeleton]; unfold cc0_body_skel
  dsimp only
  rw [bigSep_round c (fun d => iprop(dutyTok EX (barCell d) 0 c ∗ slotAny rM c d)),
    bigSep_round c (fun i => iprop(cred (tallyAt (recvCell c i) () (if i = c then 0 else N)) ∗ atPos EX (recvCell c i) 0 ∅ 0)),
    bigSep_round c (fun i => iprop(slotAny rM c i ∗ semVal (recvCell c i) 0)), bigSep_slots (fun j => back c j)]
  have hw {k : Dev nD} (hk : k ≠ 0) : iprop(cred (tallyAt (recvCell c (c + k)) () (if c + k = c then 0 else N)) ∗ atPos EX (recvCell c (c + k)) 0 ∅ 0)
      ⊢ (incoming c (c + k) : sProp 𝕄) := by rw [if_neg (add_ne c hk)]; unfold incoming; exact .rfl
  have ha (i : Dev nD) : arrived m c i ⊢ iprop(slotAny rM c i ∗ semVal (recvCell c i) 0) := by
    unfold arrived
    iintro ⟨H, Hz⟩
    isplitl [H]; · iapply (slot_forget rM c i _) $$ H
    iexact Hz
  iintro ⟨#HR, #Hl, HO, Hx, Ho, ⟨H1, H2, H3, H4, H5, H6, H7, -, Hown⟩, HG, ⟨I1, I2, I3, I4, I5, I6, I7, -, Hz⟩, HZ, Hc, Hat⟩ Hk
  imod (close_own_recv m K c) $$ [Hz] with Hz
  · isplitr; · iexact HR
    iexact Hz
  iapply (step_bind c)
  iapply (part8_spec m K c h0 h1 h2 h3 f) $$ [HO Hx Ho H1 H2 H3 H4 H5 H6 H7 HG I1 I2 I3 I4 I5 I6 I7 HZ Hc Hat]
  · isplitr; · iexact HR
    isplitr; · iexact Hl
    isplitl [HO]; · iexact HO
    isplitl [Hx]; · iexact Hx
    isplitl [Ho]; · iexact Ho
    isplitl [H1 H2 H3 H4 H5 H6 H7]
    · unfold hands hand
      isplitl [H1]; · iexact H1
      isplitl [H2]; · iexact H2
      isplitl [H3]; · iexact H3
      isplitl [H4]; · iexact H4
      isplitl [H5]; · iexact H5
      isplitl [H6] <;> iassumption
    isplitl [HG]; · iexact HG
    isplitl [I1 I2 I3 I4 I5 I6 I7]
    · unfold inbox
      isplitl [I1]; · iapply (hw (k := 1) (by decide)) $$ I1
      isplitl [I2]; · iapply (hw (k := 2) (by decide)) $$ I2
      isplitl [I3]; · iapply (hw (k := 3) (by decide)) $$ I3
      isplitl [I4]; · iapply (hw (k := 4) (by decide)) $$ I4
      isplitl [I5]; · iapply (hw (k := 5) (by decide)) $$ I5
      isplitl [I6]; · iapply (hw (k := 6) (by decide)) $$ I6
      iapply (hw (k := 7) (by decide)) $$ I7
    isplitl [HZ]; · iexact HZ
    isplitl [Hc] <;> iassumption
  unfold inboxDone
  iintro %v %w ⟨HO, Hx, Ho, Hb, ⟨I1, I2, I3, I4, I5, I6, I7⟩, B0, B1, B2, B3, B4, B5, B6, S7, Z7⟩
  dsimp only
  iapply (step_back m K c 7 (done_iff c).2.2.2.2.2.2.2 _ rfl _ _) $$ [HO S7 Z7]
  · isplitr; · iexact HR
    isplitl [HO]; · iexact HO
    isplitl [S7] <;> iassumption
  iintro ⟨HO, B7⟩
  simp only [Prog.pure_eq_ret, wp_ret]
  imodintro
  iapply Hk
  isplitl [HO]; · iexact HO
  isplitl [Hx]; · iexact Hx
  isplitl [Ho]; · iexact Ho
  isplitl [Hb]; · iexact Hb
  isplitl [I1 I2 I3 I4 I5 I6 I7 Hown Hz]
  · isplitl [I1]; · iapply (ha (c + 1)) $$ I1
    isplitl [I2]; · iapply (ha (c + 2)) $$ I2
    isplitl [I3]; · iapply (ha (c + 3)) $$ I3
    isplitl [I4]; · iapply (ha (c + 4)) $$ I4
    isplitl [I5]; · iapply (ha (c + 5)) $$ I5
    isplitl [I6]; · iapply (ha (c + 6)) $$ I6
    isplitl [I7]; · iapply (ha (c + 7)) $$ I7
    isplitl [Hown] <;> iassumption
  isplitl [B0]; · iexact B0
  isplitl [B1]; · iexact B1
  isplitl [B2]; · iexact B2
  isplitl [B3]; · iexact B3
  isplitl [B4]; · iexact B4
  isplitl [B5]; · iexact B5
  isplitl [B6] <;> iassumption

end Parts
end Cert.Exchange
-- ==== Proof.Launch.lean ====
/-
# The exchange launched on the eight devices

The ghost state one launch needs is minted once and dealt to the devices: every semaphore's protocol is put in force for
all of them at once, and each device gets the tokens of what it pays and the credit of what it awaits. With the kernel's
own theorem this gives the whole program's run, from any memory and over any float values: it ends on every device, the
argument is what it was, the result is the kernel's, and every semaphore is at zero.
-/
module

public import proofs.«01_k».proof.Proof.Body
public import proofs.«01_k».proof.Proof.Gen.KernelIdeal.Points
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The tokens and positions of a device -/

/-- The tokens of the duties device `c` pays: a unit on every barrier, and its transfers' two ends. -/
def payToks (c : Dev nD) : sProp 𝕄 :=
  iprop((bigSep Finset.univ fun d : Dev nD => dutyTok EX (barCell d) 0 c)
    ∗ (bigSep Finset.univ fun j : Dev nD => dutyTok EX (sendCell c j) 0 j)
    ∗ bigSep Finset.univ fun j : Dev nD => dutyTok EX (recvCell j c) 0 c)

/-- The tokens of the duties on device `c`'s semaphores. -/
def ownToks (c : Dev nD) : sProp 𝕄 :=
  iprop((bigSep Finset.univ fun d : Dev nD => dutyTok EX (barCell c) 0 d)
    ∗ (bigSep Finset.univ fun j : Dev nD => dutyTok EX (sendCell c j) 0 j)
    ∗ bigSep Finset.univ fun i : Dev nD => dutyTok EX (recvCell c i) 0 i)

omit [FloatOps F] in
/-- A product over a device's semaphores: its barrier, its send semaphores, its receive semaphores. -/
theorem bigSep_cells (Φ : CK → sProp 𝕄) : bigSep Finset.univ Φ
    = iprop(Φ (.inl ()) ∗ (bigSep Finset.univ fun j => Φ (.inr (.inl j))) ∗ bigSep Finset.univ fun i => Φ (.inr (.inr i))) := by
  rw [bigSep_univ_sum, bigSep_univ_sum, bigSep_univ_of_subsingleton ()]
  rfl

omit [FloatOps F] in
/-- Over all devices, the tokens by owner are the tokens by payer. -/
theorem toks_by_payer : (bigSep Finset.univ fun c : Dev nD => (ownToks c : sProp 𝕄)) ⊢ bigSep Finset.univ fun c : Dev nD => payToks c := by
  unfold ownToks payToks
  simp only [bigSep_sep']
  rw [bigSep_univ_comm fun c d : Dev nD => (dutyTok EX (barCell c) 0 d : sProp 𝕄),
    bigSep_univ_comm fun c i : Dev nD => (dutyTok EX (recvCell c i) 0 i : sProp 𝕄)]

/-- What device `c` starts from, the semaphores' names given. -/
def ghost (K : Dev nD × CK → ℕ) (c : Dev nD) : sProp 𝕄 :=
  iprop(records m K ∗ (bigSep Finset.univ fun k : CK => atPos EX (kcell (c, k)) 0 ∅ 0) ∗ payToks c)

/-- The credit of what device `c` awaits. -/
def awaits (c : Dev nD) : sProp 𝕄 :=
  iprop(cred (tallyAt (barCell c) () 7) ∗ bigSep Finset.univ fun i : Dev nD => cred (tallyAt (recvCell c i) () (if i = c then 0 else N)))

/-- What device `c`'s kernel starts from beside its buffers. -/
def start (c : Dev nD) : sProp 𝕄 := iprop((∃ K, ghost m K c) ∗ awaits c ∗ levAts L lv)

/-- The two scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- A device's semaphores at zero. -/
def quiet (c : Dev nD) : sProp 𝕄 := bigSep Finset.univ fun k : CK => semVal (kcell (c, k)) 0

/-- The pipeline's data: what the windows hold, and what the kernel starts from and leaves. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => outAt m c
  Φ t := match t with
    | ⟨0, _⟩ => iprop(start m c ∗ scratch c)
    | ⟨_ + 1, _⟩ => iprop(quiet c ∗ scratch c)
  q _ := fullShare
  owed t := match t with
    | ⟨0, _⟩ => O₀ c
    | ⟨_ + 1, _⟩ => 0

/-! ## The kernel's obligation -/

omit [FloatOps F] in
/-- A whole buffer owned at some contents. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- A staging buffer holding `X`. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

omit [FloatOps F] in
/-- The receive slots and barrier tokens device `c` hands round. -/
theorem deal_hands (c : Dev nD) :
    iprop((bigSep Finset.univ fun d : Dev nD => dutyTok EX (barCell d) 0 c)
        ∗ ∃ f : Buf (Elt F) ((c : Thread nD τ).loc cc0_scratch1), ((c : Thread nD τ).loc cc0_scratch1) ↦{fullShare} f)
      ⊢ (bigSep Finset.univ fun d : Dev nD => iprop(dutyTok EX (barCell d) 0 c ∗ slotAny rM c d) : sProp 𝕄) := by
  rw [bigSep_sep']
  exact sep_mono_right (recv_split c)

omit [FloatOps F] in
/-- What device `c`'s transfers start from. -/
theorem deal_outgoing (c : Dev nD) :
    iprop((∃ f : Buf (Elt F) ((c : Thread nD τ).loc cc0_scratch0), ((c : Thread nD τ).loc cc0_scratch0) ↦{fullShare} f)
        ∗ (bigSep Finset.univ fun j : Dev nD => dutyTok EX (sendCell c j) 0 j) ∗ bigSep Finset.univ fun j : Dev nD => dutyTok EX (recvCell j c) 0 c)
      ⊢ (bigSep Finset.univ fun j : Dev nD => outgoing c j : sProp 𝕄) := by
  unfold outgoing
  rw [bigSep_sep', bigSep_sep']
  exact sep_mono_left (stage_split c)

omit [FloatOps F] in
/-- The slots come back as whole buffers, the semaphores at zero. -/
theorem gather_back (c : Dev nD) :
    iprop(semVal (barCell c) 0 ∗ (bigSep Finset.univ fun i : Dev nD => iprop(slotAny rM c i ∗ semVal (recvCell c i) 0)) ∗ bigSep Finset.univ fun j : Dev nD => back c j)
      ⊢ (iprop(quiet c ∗ scratch c) : sProp 𝕄) := by
  unfold back quiet scratch
  rw [bigSep_sep', bigSep_sep', bigSep_cells]
  iintro ⟨Hb, ⟨Hr, Hvr⟩, Hs, Hvs⟩
  isplitl [Hb Hvr Hvs]
  · isplitl [Hb]; · iexact Hb
    isplitl [Hvs]; · iexact Hvs
    iexact Hvr
  isplitl [Hs]; · iapply (stage_join c) $$ Hs
  iapply (recv_join c) $$ Hr

def before (c : Dev nD) : sProp 𝕄 :=
  iprop((start m c ∗ scratch c) ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))

def after (c : Dev nD) : sProp 𝕄 :=
  iprop((quiet c ∗ scratch c) ∗ (dats m 0 c).owesAt () t0_0.succ ∗ staged c cc0_stg0_0 (xAt m c) ∗ staged c cc0_stg1_0 (outAt m c))

theorem before_x (c : Dev nD) (d) : (dats m 0 c).before (0 : Fin 2) t0_0 d = xAt m c := by
  unfold Dat.before; rw [if_pos (fetch0_0 t0_0)]; rfl

/-- The kernel on device `c`, from what the launch leaves it to what the launch takes back. -/
theorem body_run (c : Dev nD) : before m c
    ⊢ wpAt c (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => after m c) := by
  unfold before start ghost awaits scratch payToks
  rw [bigSep_cells]
  simp only [before_x]
  iintro ⟨⟨⟨⟨%K, HR, ⟨Hab, Has, Har⟩, Htb, Hts, Htr⟩, ⟨Hcb, Hcr⟩, Hl⟩, Hs, Hr⟩, Ho, ⟨%d0, %f0, %hf0, Hx⟩, ⟨%d1, %f1, -, Hout⟩⟩
  subst hf0
  unfold Dat.owesAt Pipeline.owesWithin
  icases Ho with ⟨%W, -, HO⟩
  iapply (body_spec m K c (Memref.isWhole_whole _) (Memref.isWhole_whole _) (Memref.isWhole_whole _) (Memref.isWhole_whole _) f1 (Q := fun _ => after m c)) $$ [HR Hl HO Hx Hout Htb Hr Hs Hts Htr Hcr Har Has Hcb Hab]
  · isplitl [HR]; · iexact HR
    isplitl [Hl]; · iexact Hl
    isplitl [HO]; · unfold debt; iexists W; iexact HO
    isplitl [Hx]; · unfold xPts; iexact Hx
    isplitl [Hout]; · unfold oPts; iexact Hout
    isplitl [Htb Hr]
    · iapply (deal_hands c)
      isplitl [Htb]; · iexact Htb
      iexact Hr
    isplitl [Hs Hts Htr]
    · iapply (deal_outgoing c)
      isplitl [Hs]; · iexact Hs
      isplitl [Hts]; · iexact Hts
      iexact Htr
    isplitl [Hcr Har]
    · rw [bigSep_sep']
      isplitl [Hcr]; · iexact Hcr
      iexact Har
    isplitl [Has]; · iexact Has
    isplitl [Hcb]; · iexact Hcb
    iexact Hab
  unfold debt xPts oPts after Dat.owesAt Pipeline.owesWithin
  iintro ⟨⟨%W', HO⟩, Hx, Hout, Hback⟩
  isplitl [Hback]; · iapply (gather_back c) $$ Hback
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The pipeline's obligation on the kernel, on every device. -/
theorem body_ok (c : Dev nD) : BodyObligation (dats m 0 c) (defs₀ (F := F)) 𝒱₀ () Set.univ := fun t => by
  rw [fin_N0 t]
  rw [bigSep_W0, bigSep_W0]
  simp only [owns_buffer]
  exact body_run m c

/-! ## The ghost state minted and dealt -/

theorem ownSems_facts : Pipeline.OwnSemFacts cfg0.spec osem := by decide

theorem share_full (c : Dev nD) (w : Fin cfg0.W) : (dats m 0 c).share w = fullShare := by unfold Dat.share; split <;> rfl

/-- Every semaphore of the exchange. -/
def allCells : Finset (GSem nD τ sig) := Finset.univ.map ⟨kcell, kcell_injective⟩

/-- Which duty of a device's semaphores a token is for: the barrier's by device, then each transfer semaphore's one. -/
abbrev dutyOf : Fin 8 ⊕ OK → CK × Dev nD :=
  Sum.elim (fun d => (.inl (), d)) fun o => (.inr o, o.elim id id)
abbrev tokOf (cx : Dev nD × (Fin 8 ⊕ OK)) : GSem nD τ sig × ℕ × Dev nD := (kcell (cx.1, (dutyOf cx.2).1), 0, (dutyOf cx.2).2)

theorem tokOf_injective : Function.Injective tokOf := by
  have hd : Function.Injective dutyOf := by decide
  rintro ⟨c, x⟩ ⟨c', x'⟩ h
  have h1 := kcell_injective (congrArg (fun t : GSem nD τ sig × ℕ × Dev nD => t.1) h)
  have h2 : (dutyOf x).2 = (dutyOf x').2 := congrArg (fun t : GSem nD τ sig × ℕ × Dev nD => t.2.2) h
  have hc : c = c' := congrArg Prod.fst h1
  have hk : (dutyOf x).1 = (dutyOf x').1 := congrArg Prod.snd h1
  rw [hc, hd (Prod.ext hk h2)]

/-- Every duty's token. -/
def allToks : Finset (GSem nD τ sig × ℕ × Dev nD) := Finset.univ.map ⟨tokOf, tokOf_injective⟩

/-- The launch's ghost state. -/
def u₀ : UU := (initOf (Pipeline.cells cfgs cellOf_inj) (Pipeline.launchToks cfgs cellOf_inj), initOf allCells allToks)

/-- Device `c`'s share of the ghost state as minted. -/
def minted (c : Dev nD) : sProp 𝕄 :=
  iprop((bigSep Finset.univ fun k : CK => roundState EX (sched m) (kcell (c, k)) 0)
    ∗ (bigSep Finset.univ fun k : CK => atPos EX (kcell (c, k)) 0 ∅ 0) ∗ (bigSep Finset.univ fun k : CK => reached EX (kcell (c, k)) 0) ∗ ownToks c)

/-- The same with the protocol in force. -/
def dealt (c : Dev nD) : sProp 𝕄 := iprop(∃ K, ghost m K c)

omit [FloatOps F] in
theorem over_cells (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

omit [FloatOps F] in
theorem over_toks : bigSep allToks (fun x => (dutyTok EX x.1 x.2.1 x.2.2 : sProp 𝕄)) = bigSep Finset.univ fun c : Dev nD => ownToks c := by
  unfold allToks; rw [bigSep_map, bigSep_univ_prod]
  exact bigSep_congr fun c _ => by rw [bigSep_univ_sum, bigSep_univ_sum]; rfl

omit [FloatOps F] in
/-- The exchange's ghost state, minted. -/
theorem mint : BI.own (EX (initOf allCells allToks)) ⊢ (|==> bigSep Finset.univ (minted m) : sProp 𝕄) := by
  iintro H
  imod (Rounds.fund EX (sched m) allCells allToks) $$ H with ⟨Hst, Hr, Hat, Htok⟩
  imodintro
  unfold minted
  simp only [bigSep_sep']
  rw [← over_toks, ← over_cells (fun g => roundState EX (sched m) g 0), ← over_cells (fun g => atPos EX g 0 ∅ 0), ← over_cells (fun g => reached EX g 0)]
  isplitl [Hst]; · iexact Hst
  isplitl [Hat]; · iexact Hat
  isplitl [Hr] <;> iassumption

omit [FloatOps F] in
/-- The barrier is the one semaphore that outlives the launch. -/
theorem outliving (c : Dev nD) : (unscopedSems0 c : sProp 𝕄) = semVal (barCell c) 0 := by
  unfold unscopedSems0; rw [bigSep_eq_bigSepL_of_eq [SemLoc.reg barrier0] (by decide) (by decide)]; rfl

omit [FloatOps F] in
/-- A device's semaphores at zero: the one that outlives the launch and the kernel's own. -/
theorem quiet_eq (c : Dev nD) : (quiet c : sProp 𝕄)
    = iprop(unscopedSems0 c ∗ Pipeline.ownSems0 (Ix := Unit) (Name := ℕ) (U := UU) (Lvl := ℕ) (Val := Elt F) (τ := τ) osem c) := by
  unfold quiet Pipeline.ownSems0
  rw [bigSep_univ_sum, bigSep_univ_of_subsingleton (), outliving]
  rfl

omit [FloatOps F] in
/-- One device's semaphores put under the protocol. -/
theorem enforce (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k : CK => iprop(∃ κ : ℕ, cellInv EX (sched m) κ (kcell (c, k))))
          ∗ (bigSep Finset.univ fun k : CK => atPos EX (kcell (c, k)) 0 ∅ 0) ∗ (bigSep Finset.univ fun k : CK => reached EX (kcell (c, k)) 0) ∗ ownToks c) := by
  have hall : iprop(quiet c ∗ bigSep Finset.univ fun k : CK => roundState EX (sched m) (kcell (c, k)) 0)
      ⊢ (|={Set.univ}=> bigSep Finset.univ fun k : CK => iprop(∃ κ : ℕ, cellInv EX (sched m) κ (kcell (c, k))) : sProp 𝕄) := by
    unfold quiet
    rw [← bigSep_sep']
    exact (bigSep_mono fun k _ => (Rounds.body_intro EX (sched m) (kcell (c, k))).trans inv_alloc).trans (bigSep_fupd _ _)
  unfold minted
  iintro ⟨Ho, Hu, Hst, Hrest⟩
  imod hall $$ [Ho Hu Hst] with Hinv
  · rw [quiet_eq]
    isplitl [Ho Hu]
    · isplitl [Hu] <;> iassumption
    iexact Hst
  imodintro
  isplitl [Hinv] <;> iassumption

omit [FloatOps F] in
/-- All devices' semaphores under the protocol, every device told all of them and given its tokens. -/
theorem deal :
    (bigSep Finset.univ fun c : Dev nD => iprop((bigSep Finset.univ fun k : CK => iprop(∃ κ : ℕ, cellInv EX (sched m) κ (kcell (c, k))))
          ∗ (bigSep Finset.univ fun k : CK => atPos EX (kcell (c, k)) 0 ∅ 0) ∗ (bigSep Finset.univ fun k : CK => reached EX (kcell (c, k)) 0) ∗ ownToks c) : sProp 𝕄)
      ⊢ bigSep Finset.univ (dealt m) := by
  have hg (K : Dev nD × CK → ℕ) (c : Dev nD) :
      iprop(records m K ∗ (bigSep Finset.univ fun k : CK => atPos EX (kcell (c, k)) 0 ∅ 0) ∗ payToks c) ⊢ dealt m c := by
    unfold dealt ghost; iintro H; iexists K; iexact H
  simp only [bigSep_sep']
  rw [← bigSep_univ_prod (fun ck : Dev nD × CK => iprop(∃ κ : ℕ, cellInv EX (sched m) κ (kcell ck))),
    ← bigSep_univ_prod (fun ck : Dev nD × CK => (reached EX (kcell ck) 0 : sProp 𝕄))]
  iintro ⟨HI, Hat, #HR, Htok⟩
  ihave HK := (BI.bigSep_exists_pi Finset.univ (fun (ck : Dev nD × CK) (κ : ℕ) => (cellInv EX (sched m) κ (kcell ck) : sProp 𝕄))) $$ HI
  icases HK with ⟨%K, #HI⟩
  iapply (bigSep_with_persistent (R := records m K) fun c _ => hg K c)
  isplitr
  · unfold records; isplitl; · iexact HI
    iexact HR
  rw [bigSep_sep']
  isplitl [Hat]; · iexact Hat
  iapply toks_by_payer $$ Htok

omit [FloatOps F] in
theorem deal_all : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (dealt m) :=
  ((bigSep_mono fun c _ => enforce m c).trans (bigSep_fupd _ _)).trans (BI.fupd_mono (deal m))

/-! ## The credit of what each device awaits -/

theorem sigT_at_bar (d k c : Dev nD) : sigT d k (barCell c) () = if d + k = c then 1 else 0 := by
  have h : barCell c = barCell (d + k) ↔ d + k = c := ⟨fun h => (congrArg (fun g : GSem nD τ sig => g.1.1) h).symm, fun h => h ▸ rfl⟩
  unfold sigT; rw [tallyAt_apply]; simp only [h, and_true]

theorem sigT_at_recv (d k c i : Dev nD) : sigT d k (recvCell c i) () = 0 :=
  Nat.eq_zero_of_not_pos fun h => absurd (congrArg Prod.snd (sigT_pos h)) (fun h' => by cases h')

theorem sendT_at_bar (d j c : Dev nD) : sendT d j (barCell c) () = 0 :=
  Nat.eq_zero_of_not_pos fun h => absurd (congrArg Prod.snd (sendT_pos h)) (fun h' => by cases h')

theorem sendT_at_recv (d j c i : Dev nD) : sendT d j (recvCell c i) () = if j = c then (if d = i then (if i = c then 0 else N) else 0) else 0 := by
  have hc : recvCell c i = recvCell j d ↔ j = c ∧ d = i :=
    ⟨fun h => ⟨(congrArg (fun g : GSem nD τ sig => g.1.1) h).symm, (recvS_inj.mp (SemLoc.dma.inj (congrArg (fun g : GSem nD τ sig => g.2) h))).symm⟩,
      fun h => by rw [h.1, h.2]⟩
  unfold sendT
  by_cases hj : j = c
  · subst hj
    by_cases hd : d = i
    · subst hd
      by_cases hs : j = d
      · simp [hs]
      · rw [if_neg hs, tallyAt_apply, if_pos ⟨rfl, rfl⟩, if_pos rfl, if_pos rfl, if_neg fun h => hs h.symm]
    · split
      · simp [hd]
      · rw [tallyAt_apply, if_neg fun h => hd (hc.mp h.1).2, if_pos rfl]
  · split
    · simp [hj]
    · rw [tallyAt_apply, if_neg fun h => hj (hc.mp h.1).1]

/-- A device owes every other device's barrier one unit; -/
theorem owed_bar (d c : Dev nD) : O₀ d (barCell c) () = if d = c then 0 else 1 := by
  unfold O₀ debts sendsT
  simp only [owe, Pi.add_apply, Finsupp.add_apply, Pi.zero_apply, Finsupp.zero_apply, sigT_at_bar, sendT_at_bar]
  revert d c; decide

/-- and every other device's semaphore of its own transfer that transfer's credit. -/
theorem owed_recv (d c i : Dev nD) : O₀ d (recvCell c i) () = if d = i then (if i = c then 0 else N) else 0 := by
  unfold O₀ debts sendsT
  simp only [owe, Pi.add_apply, Finsupp.add_apply, Pi.zero_apply, Finsupp.zero_apply, sigT_at_recv, sendT_at_recv, Nat.add_zero, Nat.zero_add]
  generalize (if d = i then (if i = c then 0 else N) else 0) = n
  have h := Finset.sum_ite_eq' (Finset.univ : Finset (Fin 8)) c (fun _ => n)
  rw [if_pos (Finset.mem_univ _), Fin.sum_univ_eight] at h
  omega

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c i : Dev nD) :
    tallyOn (recvCell c i) (launchCredit (Pipeline.owing O₀) 0 (recvCell c i)) = (tallyAt (recvCell c i) () (if i = c then 0 else N) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ i fun _ => _, if_pos (Finset.mem_univ _)]

omit [FloatOps F] in
/-- The launch's credit holds what device `c` awaits. -/
theorem credits (c : Dev nD) : (Pipeline.launchCred O₀ c : sProp 𝕄) ⊢ awaits c := by
  unfold Pipeline.launchCred awaits
  have hrecv : Function.Injective fun i : Dev nD => (SemLoc.dma (recvS i) : SemLoc sig) := fun i j h => recvS_inj.mp (SemLoc.dma.inj h)
  have hsub : Finset.univ.map ⟨_, hrecv⟩ ⊆ (Finset.univ.erase (SemLoc.reg barrier0) : Finset (SemLoc sig)) := fun x hx => by
    obtain ⟨i, -, rfl⟩ := Finset.mem_map.mp hx
    exact Finset.mem_erase.mpr ⟨(fun h => by cases h), Finset.mem_univ _⟩
  rw [bigSep_univ_at _ (SemLoc.reg barrier0), launch_bar]
  refine sep_mono_right ((bigSep_subset hsub).trans ?_)
  rw [bigSep_map]
  exact Entails.of_eq (bigSep_congr fun i _ => congrArg cred (launch_recv c i))

/-! ## The run -/

theorem start_of_launch (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  unfold start dealt
  iintro ⟨-, Hl, Hc, -, HG⟩
  imodintro
  isplitl
  · isplitl [HG]; · iexact HG
    isplitl [Hc]; · iapply (credits c) $$ Hc
    iexact Hl
  iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(quiet c ∗ scratch c) from rfl, scopedRest0_eq, quiet_eq]
  unfold scratch
  iintro ⟨⟨Hu, Ho⟩, Hr⟩
  isplitl [Hu]; · iexact Hu
  isplitl [Ho] <;> iassumption

theorem staging_waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the windows' arrays end holding. -/
def final (c : Dev nD) (w : Fin cfg0.W) : Buf (Elt F) ((cfg0.win w).arr.view.loc (c : Thread nD τ)) := (dats m 0 c).arrAt w cfg0.N

set_option maxRecDepth 8000 in
/-- Every fair execution of the program on the eight devices ends, with every window's array at its final contents on
    every device and every semaphore at zero. -/
theorem run_arrays : θ_run defs (onTc (τ := τ) (main (F := F))) ⟨m, fun _ => 0, ρ⟩
    (fun r => (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSems_facts (Pipeline.PreFacts.none _) EP defs₀ 𝒱₀ m ρ main
    (hmain := fun _ => rfl)
    (hbody := body_ok m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := staging_waits m)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := deal_all m)
    (hA := fun _ _ => rfl) (hpf := fun _ k => k.elim0)
    (X := start m) (Y := fun c => unscopedSems0 c) (Z := fun _ => iprop(emp))
    (hX := start_of_launch m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it was. -/
theorem final_arg (c : Dev nD) : final m c (0 : Fin 2) = m (win0_0.arr.view.loc (c : Thread nD τ)) :=
  (dats (F := F) m 0 c).arrAt_in (0 : Fin 2) rfl _

end Cert.Exchange
-- ==== Proof.Value.lean ====
/-
# What the exchange computes

The result array of a device ends at what its kernel staged: the column block of that device's number, of the inputs of
all eight devices, added up from its own round to the one before it. Over exact numbers the order does not matter and
changes of format are nothing, so this is that block of columns of the reference's sum over the leading axis.
-/
module

public import proofs.«01_k».proof.Proof.Launch
public import proofs.«01_k».proof.Proof.Gen.ReferenceIdeal
public import Idealize.ShloMosaic.Lib.Pointwise
public import Idealize.ShloMosaic.Lib.Layout

@[expose] public section

noncomputable section

namespace Cert.Exchange

open Cert.KernelIdeal Cert.KernelIdeal.Gen

open Idealize.ShloMosaic
open Idealize.ShloMosaic.TcCoe
open Idealize.SL.Sem

section Arrays

variable {F : FTy → Type} [FloatOps F]
variable (m : (ℓ : Loc nD τ sig) → Buf (Elt F) ℓ) (ρ : Dev nD → PrngReg)

/-- The input window is the whole argument. -/
theorem xAt_eq (c : Dev nD) : xAt m c = m ((c : Thread nD τ).loc main_arg0) :=
  Memref.read_access_unit_zero (Elt F) main_arg0 (funext fun a => Nat.zero_mul _) _ _

/-- The result window is the whole result. -/
theorem read_result (t : Fin cfg0.N) (X : (main_v1 : Ref sig .tc).ty.Contents (Elt F)) :
    ((cfg0.win (1 : Fin 2)).blk t).view.read (Elt F) X = X := by
  rw [fin_N0 t]
  exact Memref.read_access_unit_zero (Elt F) main_v1 (funext fun a => Nat.zero_mul _) _ X

/-- The result array ends at what the kernel staged. -/
theorem final_result (c : Dev nD) : final m c (1 : Fin 2) = outAt m c := by
  have h := (dats m 0 c).read_blk_arrAt (1 : Fin 2) (outAt m c)
    (fun t _ => by rw [read_result]; rw [fin_N0 t]; rfl) t0_0 (flush0_1 t0_0)
  rw [read_result, read_result] at h
  exact h

/-- Every fair execution of the program ends with the result at the kernel's sum on every device, the argument as it was
    and every semaphore at zero. -/
theorem run_main : θ_run defs (onTc (τ := τ) (main (F := F))) ⟨m, fun _ => 0, ρ⟩ (fun r => (∀ c : Dev nD,
      r.2.mem ((c : Thread nD τ).loc main_v1) = outAt m c ∧ r.2.mem ((c : Thread nD τ).loc main_arg0) = m ((c : Thread nD τ).loc main_arg0))
    ∧ r.2.sem = fun _ => 0) :=
  (θ_run defs _ _).mono (fun r h => ⟨fun c => ⟨(h.1 c (1 : Fin 2)).trans (final_result m c), (h.1 c (0 : Fin 2)).trans (final_arg m c)⟩, h.2⟩)
    (run_arrays m ρ)

end Arrays

/-! ## Over exact numbers -/

/-- Adding up from one device round to the one before it is adding up over all. -/
theorem sum_round (c : Dev nD) (f : Dev nD → EReal) :
    f c + f (c + 1) + f (c + 2) + f (c + 3) + f (c + 4) + f (c + 5) + f (c + 6) + f (c + 7) = ∑ d, f d := by
  rw [← Equiv.sum_comp (Equiv.addLeft c) f]
  have h := Fin.sum_univ_eight fun k : Fin 8 => f (c + k)
  rw [add_zero] at h
  exact h.symm

variable (m : (ℓ : Loc nD τ sig) → Buf (Elt Ideal) ℓ)

/-- One element of the kernel's result: the sum over the devices of the block each sent. -/
theorem outAt_apply (c : Dev nD) (j : S256x256.Idx) :
    outAt m c j = ∑ d : Dev nD, blk m d c (Fin.cons ⟨0, Nat.one_pos⟩ j) := by
  rw [← sum_round c]
  have h (v : Vec Ideal S1x256x256 .bf16) : shapeCast S256x256 v shapeCasts_S1x256x256_S256x256 j = v (Fin.cons ⟨0, Nat.one_pos⟩ j) :=
    shapeCast_dropUnit_apply _ v _ j
  unfold outAt k0_pay14 k0_pay13 k0_pay12 k0_pay11 k0_pay10
  simp only [← h]
  rfl

/-- The reference's result of a whole argument. -/
def refOut (x : FVec Ideal Cert.ReferenceIdeal.S8x256x2048 .bf16) : FVec Ideal Cert.ReferenceIdeal.S256x2048 .f32 :=
  extf .f32 (truncf .bf16 (Host.reduceAdd (extf .f32 x Cert.ReferenceIdeal.Facts₀.bitsLt_bf16_f32) (constant Cert.ReferenceIdeal.S_ .f32 0x00000000#32)
    Cert.ReferenceIdeal.Facts₀.reducesTo_S8x256x2048_S256x2048_d0 Cert.ReferenceIdeal.Facts₀.h_S_) Cert.ReferenceIdeal.Facts₀.bitsLt_bf16_f32) Cert.ReferenceIdeal.Facts₀.bitsLt_bf16_f32

/-- One element of the reference's result: the sum along the leading axis. -/
theorem refOut_apply (x : FVec Ideal Cert.ReferenceIdeal.S8x256x2048 .bf16) (j : Cert.ReferenceIdeal.S256x2048.Idx) :
    refOut x j = ∑ d : Fin 8, x (ix3 d (j 0) (j 1)) := by
  pointwise [refOut]

/-- On each device the kernel's result is that device's block of columns of the reference's. -/
theorem outAt_block (x : FVec Ideal Cert.ReferenceIdeal.S8x256x2048 .bf16)
    (hx : ∀ c : Dev nD, m ((c : Thread nD τ).loc main_arg0) = Layout.block ⟨3, ![1, 256, 2048]⟩ ⟨3, ![8, 256, 2048]⟩ 0 8 c x) (c : Dev nD) :
    outAt m c = Layout.block ⟨2, ![256, 256]⟩ ⟨2, ![256, 2048]⟩ 1 8 c (refOut x) := by
  funext j
  rw [outAt_apply, Layout.block_apply, refOut_apply]
  refine Finset.sum_congr rfl fun d _ => ?_
  unfold blk
  rw [xAt_eq, hx, Layout.block_apply]
  refine congrArg x (funext fun a => Fin.ext ?_)
  match a with
  | ⟨0, _⟩ => show d.val * 1 + (0 + 1 * 0) = d.val; omega
  | ⟨1, _⟩ => show 0 + 1 * (j 0).val = (j 0).val; omega
  | ⟨2, _⟩ => show 256 * c.val + 1 * (j 1).val = c.val * 256 + (j 1).val; omega

end Cert.Exchange
-- ==== Proof.lean ====
/- The certificate: the kernel's frame as compiled and over exact numbers, the reference's frame, and the kernel's result
   against the reference's. The run the first, second and last rest on is `Cert.Exchange.run_main` (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The compiled kernel and the kernel over exact numbers have one text: their tables of bodies agree. -/
theorem bodies_eq : Cert.KernelIdeal.defs₀ (F := Bits) = Cert.Kernel.defs₀ (F := Bits) := by
  unfold Cert.KernelIdeal.defs₀ Cert.Kernel.defs₀
  refine congrArg Defs.onTc (funext fun l => funext fun p => ?_)
  match l, p with
  | 0, (_, _) => rfl

/-- So do the tables that hold the pipeline as well. -/
theorem defs_eq : Cert.KernelIdeal.defs (F := Bits) = Cert.Kernel.defs (F := Bits) :=
  congrArg (Pipeline.defs (Cert.KernelIdeal.pcfgs (F := Bits))) bodies_eq

/-- The compiled kernel runs on every device without a fault, leaves its argument alone and every semaphore at zero. -/
theorem kernel_frame : Cert.quiescent_Kernel := fun m ρ _ => by
  have h := (θ_run (Cert.KernelIdeal.defs (F := Bits)) _ _).mono
    (Q' := fun r => (∀ c : Dev Cert.KernelIdeal.nD, r.2.mem (c.tc.loc Cert.KernelIdeal.main_arg0) = m (c.tc.loc Cert.KernelIdeal.main_arg0))
      ∧ r.2.sem = fun _ => 0)
    (fun _ h => ⟨fun c => (h.1 c).2, h.2⟩) (Cert.Exchange.run_main (F := Bits) m ρ)
  rw [defs_eq] at h
  exact h

/-- So does the kernel over exact numbers. -/
theorem ideal_frame : Cert.quiescent_KernelIdeal := fun m ρ _ =>
  (θ_run (Cert.KernelIdeal.defs (F := Ideal)) _ _).mono (fun _ h => ⟨fun c => (h.1 c).2, h.2⟩) (Cert.Exchange.run_main (F := Ideal) m ρ)

/-- So does the reference, which has no semaphore. -/
theorem reference_frame : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Each device's result is its block of columns of the reference's. -/
theorem same_result : Cert.algebraic_KernelIdeal_ReferenceIdeal := by
  intro m ρ m' ρ' _ hx
  refine ⟨Cert.Exchange.refOut (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h.1 c).1.trans (Cert.Exchange.outAt_block m _ hx c), (h.1 c).2⟩) (Cert.Exchange.run_main (F := Ideal) m ρ)
  · exact (θ_run (Cert.ReferenceIdeal.defs (F := Ideal)) _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  kernel_frame, ideal_frame, reference_frame, trivial, same_result⟩

end Cert.Proof

end
